-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  IdealRules.named_const.Statement Cert.Kernel6Ideal.κ "log2e" .f32 0x3FB8AA3B#32 (((Real.log 2)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)) (v2 : (c : Dev Cert.Kernel6Ideal.nD) → Buf (Elt Ideal) ((c.tc : Thread Cert.Kernel6Ideal.nD Cert.Kernel6Ideal.τ).loc Cert.Kernel6Ideal.main_v8_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_v8_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v52) = v0 c
          ∧ r.2.mem ((c.tc : Thread Cert.Reference6Ideal.nD Cert.Reference6Ideal.τ).loc Cert.Reference6Ideal.main_v53) = v1 c
          ∧ r.2.mem ((c.tc : Thread Cert.Reference6Ideal.nD Cert.Reference6Ideal.τ).loc Cert.Reference6Ideal.main_v54) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v53)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v53) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v121) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S3x8192x8x2x128 : Shape := ⟨5, ![3, 8192, 8, 2, 128]⟩
abbrev S3x8192x8x128 : Shape := ⟨4, ![3, 8192, 8, 128]⟩
abbrev S_ : Shape := ⟨0, ![]⟩

class Facts : Prop where
  bcast_S_S3x8192x8x2x128 : S_.BroadcastsInDim S3x8192x8x2x128 (![] : Fin 0 → Fin S3x8192x8x2x128.rank)
  reducesTo_S3x8192x8x2x128_S_d0_1_2_3_4 : S3x8192x8x2x128.ReducesTo [0, 1, 2, 3, 4] S_
  h_S_ : 0 < S_.numel
  bcast_S_S3x8192x8x128 : S_.BroadcastsInDim S3x8192x8x128 (![] : Fin 0 → Fin S3x8192x8x128.rank)
  reducesTo_S3x8192x8x128_S_d0_1_2_3 : S3x8192x8x128.ReducesTo [0, 1, 2, 3] S_

variable [Facts]

def fn {F : FTy → Type} [FloatOps F] (main_arg0 : FVec F S3x8192x8x2x128 .f32) (main_arg1 : FVec F S3x8192x8x128 .f32) (main_arg2 : FVec F S3x8192x8x128 .f32) : IVec S_ 1 :=
  let main_v0 : FVec F S3x8192x8x2x128 .f32 := Host.absf main_arg0
  let main_cst : FVec F S_ .f32 := constant S_ .f32 0x7F800000#32
  let main_v1 : FVec F S3x8192x8x2x128 .f32 := broadcastInDim S3x8192x8x2x128 ![] bcast_S_S3x8192x8x2x128 main_cst
  let main_v2 : IVec S3x8192x8x2x128 1 := cmpf .olt main_v0 main_v1
  let main_c : IVec S_ 1 := constantI S_ 1 1#1
  let main_v3 : IVec S_ 1 := (fun x v => Host.reduce IntOp.andi x v reducesTo_S3x8192x8x2x128_S_d0_1_2_3_4 h_S_) main_v2 main_c
  let main_v4 : FVec F S3x8192x8x128 .f32 := Host.absf main_arg1
  let main_cst_0 : FVec F S_ .f32 := constant S_ .f32 0x7F800000#32
  let main_v5 : FVec F S3x8192x8x128 .f32 := broadcastInDim S3x8192x8x128 ![] bcast_S_S3x8192x8x128 main_cst_0
  let main_v6 : IVec S3x8192x8x128 1 := cmpf .olt main_v4 main_v5
  let main_c_1 : IVec S_ 1 := constantI S_ 1 1#1
  let main_v7 : IVec S_ 1 := (fun x v => Host.reduce IntOp.andi x v reducesTo_S3x8192x8x128_S_d0_1_2_3 h_S_) main_v6 main_c_1
  let main_v8 : IVec S_ 1 := andi main_v3 main_v7
  main_v8
-- ==== Kernel.lean ====
abbrev S3x8192x8x2x128 : Shape := ⟨5, ![3, 8192, 8, 2, 128]⟩
abbrev S3x8192x8x128 : Shape := ⟨4, ![3, 8192, 8, 128]⟩
abbrev S_ : Shape := ⟨0, ![]⟩
abbrev S24576x2048 : Shape := ⟨2, ![24576, 2048]⟩
abbrev S24576x1024 : Shape := ⟨2, ![24576, 1024]⟩
abbrev S24576x4096 : Shape := ⟨2, ![24576, 4096]⟩
abbrev S1024x256 : Shape := ⟨2, ![1024, 256]⟩
abbrev S8192x128 : Shape := ⟨2, ![8192, 128]⟩
abbrev S8x128x1024 : Shape := ⟨3, ![8, 128, 1024]⟩
abbrev S1024x128 : Shape := ⟨2, ![1024, 128]⟩
abbrev S128x1024 : Shape := ⟨2, ![128, 1024]⟩
abbrev S1x128x1024 : Shape := ⟨3, ![1, 128, 1024]⟩
abbrev S128x2048 : Shape := ⟨2, ![128, 2048]⟩
abbrev S8x2048 : Shape := ⟨2, ![8, 2048]⟩
abbrev S256x128 : Shape := ⟨2, ![256, 128]⟩
abbrev S256x2048 : Shape := ⟨2, ![256, 2048]⟩
abbrev S32x8x2048 : Shape := ⟨3, ![32, 8, 2048]⟩
abbrev S1024x2048 : Shape := ⟨2, ![1024, 2048]⟩
abbrev S2048 : Shape := ⟨1, ![2048]⟩
abbrev S1x2048 : Shape := ⟨2, ![1, 2048]⟩

abbrev nBuf : Space → Nat
  | .hbm => 18
  | .vmem => 9
  | .smem => 0
  | _ => 0

abbrev bufTy : (tb : Table) → Fin (tcTables nBuf tb) → BufTy
  | .hbm, ⟨0, _⟩ => ⟨S3x8192x8x2x128, .f32⟩
  | .hbm, ⟨1, _⟩ => ⟨S3x8192x8x128, .f32⟩
  | .hbm, ⟨2, _⟩ => ⟨S3x8192x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S3x8192x8x2x128, .f32⟩
  | .hbm, ⟨11, _⟩ => ⟨S3x8192x8x2x128, .f32⟩
  | .hbm, ⟨12, _⟩ => ⟨S24576x2048, .f32⟩
  | .hbm, ⟨13, _⟩ => ⟨S24576x1024, .f32⟩
  | .hbm, ⟨14, _⟩ => ⟨S24576x1024, .f32⟩
  | .hbm, ⟨15, _⟩ => ⟨S24576x4096, .f32⟩
  | .hbm, ⟨16, _⟩ => ⟨S24576x4096, .bf16⟩
  | .hbm, ⟨17, _⟩ => ⟨S24576x2048, .bf16⟩
  | .local _ .vmem, ⟨0, _⟩ => ⟨S1024x256, .bf16⟩
  | .local _ .vmem, ⟨1, _⟩ => ⟨S1024x256, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1024x256, .bf16⟩
  | .local _ .vmem, ⟨7, _⟩ => ⟨S1024x256, .bf16⟩
  | .local _ .vmem, ⟨8, _⟩ => ⟨S8x128x1024, .bf16⟩
  | _, _ => ⟨S3x8192x8x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 8, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_131 : BitVec 32 := 0#32
  let c8_i32 : BitVec 32 := 8#32
  let v324 : BitVec 32 := Scalar.addi c0_i32_131 c8_i32
  let c1_i32 : BitVec 32 := 1#32
  ⟨c0_i32_131, v324, c1_i32⟩
def k0_mult1 (k0_t1 : Fin k0_t1_loop.trips) : BitVec 32 :=
  let c0_i32_131 : BitVec 32 := 0#32
  let c1_i32 : BitVec 32 := 1#32
  let arg8 : BitVec 32 := Scf.iv c0_i32_131 c1_i32 k0_t1
  let c1024_i32 : BitVec 32 := 1024#32
  let v325 : BitVec 32 := Scalar.muli arg8 c1024_i32
  v325
def k0_off1 (k0_t1 : Fin k0_t1_loop.trips) : Fin 2 → Nat :=
  let c0_i32_131 : BitVec 32 := 0#32
  let c1_i32 : BitVec 32 := 1#32
  let arg8 : BitVec 32 := Scf.iv c0_i32_131 c1_i32 k0_t1
  let c1024_i32 : BitVec 32 := 1024#32
  let v325 : BitVec 32 := Scalar.muli arg8 c1024_i32
  let v326 : BitVec 32 := v325
  let v327 : Index := Scalar.indexCast v326
  let c0_133 : Index := 0#32
  ![v327.toNat, 0]
def k0_off2 (k0_t1 : Fin k0_t1_loop.trips) : Fin 3 → Nat :=
  let c0_i32_131 : BitVec 32 := 0#32
  let c1_i32 : BitVec 32 := 1#32
  let arg8 : BitVec 32 := Scf.iv c0_i32_131 c1_i32 k0_t1
  let v333 : Index := Scalar.indexCast arg8
  let c0_134 : Index := 0#32
  let c0_135 : Index := 0#32
  ![v333.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S3x8192x8x2x128 : Shape := ⟨5, ![3, 8192, 8, 2, 128]⟩
abbrev S3x8192x8x128 : Shape := ⟨4, ![3, 8192, 8, 128]⟩
abbrev S_ : Shape := ⟨0, ![]⟩
abbrev S3x8x8192x8192x2 : Shape := ⟨5, ![3, 8, 8192, 8192, 2]⟩
abbrev S3x8x2x8192x8192 : Shape := ⟨5, ![3, 8, 2, 8192, 8192]⟩
abbrev S3x8x2x8192 : Shape := ⟨4, ![3, 8, 2, 8192]⟩
abbrev S3x8x2x8192x1 : Shape := ⟨5, ![3, 8, 2, 8192, 1]⟩
abbrev S3x8x128x2x8192 : Shape := ⟨5, ![3, 8, 128, 2, 8192]⟩
abbrev S24576x2048 : Shape := ⟨2, ![24576, 2048]⟩

abbrev nBuf : Space → Nat
  | .hbm => 29
  | .vmem => 0
  | .smem => 0
  | _ => 0

abbrev bufTy : (tb : Table) → Fin (tcTables nBuf tb) → BufTy
  | .hbm, ⟨0, _⟩ => ⟨S3x8192x8x2x128, .f32⟩
  | .hbm, ⟨1, _⟩ => ⟨S3x8192x8x128, .f32⟩
  | .hbm, ⟨2, _⟩ => ⟨S3x8192x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S3x8x8192x8192x2, .f32⟩
  | .hbm, ⟨8, _⟩ => ⟨S3x8x2x8192x8192, .f32⟩
  | .hbm, ⟨9, _⟩ => ⟨S3x8x2x8192x8192, .f32⟩
  | .hbm, ⟨10, _⟩ => ⟨S3x8x2x8192x8192, .f32⟩
  | .hbm, ⟨11, _⟩ => ⟨S_, .f32⟩
  | .hbm, ⟨12, _⟩ => ⟨S3x8x2x8192, .f32⟩
  | .hbm, ⟨13, _⟩ => ⟨S_, .f32⟩
  | .hbm, ⟨14, _⟩ => ⟨S3x8x2x8192, .f32⟩
  | .hbm, ⟨15, _⟩ => ⟨S3x8x2x8192, .f32⟩
  | .hbm, ⟨16, _⟩ => ⟨S3x8x2x8192x1, .f32⟩
  | .hbm, ⟨17, _⟩ => ⟨S3x8x2x8192x8192, .f32⟩
  | .hbm, ⟨18, _⟩ => ⟨S3x8x2x8192x8192, .f32⟩
  | .hbm, ⟨19, _⟩ => ⟨S3x8x2x8192x8192, .f32⟩
  | .hbm, ⟨20, _⟩ => ⟨S_, .f32⟩
  | .hbm, ⟨21, _⟩ => ⟨S3x8x2x8192, .f32⟩
  | .hbm, ⟨22, _⟩ => ⟨S3x8x2x8192x1, .f32⟩
  | .hbm, ⟨23, _⟩ => ⟨S3x8x2x8192x8192, .f32⟩
  | .hbm, ⟨24, _⟩ => ⟨S3x8x2x8192x8192, .f32⟩
  | .hbm, ⟨25, _⟩ => ⟨S3x8x128x2x8192, .f32⟩
  | .hbm, ⟨26, _⟩ => ⟨S3x8192x8x2x128, .f32⟩
  | .hbm, ⟨27, _⟩ => ⟨S24576x2048, .f32⟩
  | .hbm, ⟨28, _⟩ => ⟨S24576x2048, .bf16⟩
  | _, _ => ⟨S3x8192x8x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel2.lean ====
abbrev S1x8192x2048 : Shape := ⟨3, ![1, 8192, 2048]⟩
abbrev S2x8192x2048 : Shape := ⟨3, ![2, 8192, 2048]⟩
abbrev S2048 : Shape := ⟨1, ![2048]⟩
abbrev S2048x8192 : Shape := ⟨2, ![2048, 8192]⟩
abbrev S8192x2048 : Shape := ⟨2, ![8192, 2048]⟩
abbrev S16384x2048 : Shape := ⟨2, ![16384, 2048]⟩
abbrev S24576x2048 : Shape := ⟨2, ![24576, 2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 12
  | .vmem => 10
  | .smem => 0
  | _ => 0

abbrev bufTy : (tb : Table) → Fin (tcTables nBuf tb) → BufTy
  | .hbm, ⟨0, _⟩ => ⟨S1x8192x2048, .f32⟩
  | .hbm, ⟨1, _⟩ => ⟨S2x8192x2048, .f32⟩
  | .hbm, ⟨2, _⟩ => ⟨S2048, .f32⟩
  | .hbm, ⟨3, _⟩ => ⟨S2048x8192, .f32⟩
  | .hbm, ⟨4, _⟩ => ⟨S8192x2048, .f32⟩
  | .hbm, ⟨5, _⟩ => ⟨S8192x2048, .f32⟩
  | .hbm, ⟨6, _⟩ => ⟨S16384x2048, .f32⟩
  | .hbm, ⟨7, _⟩ => ⟨S24576x2048, .f32⟩
  | .hbm, ⟨8, _⟩ => ⟨S1x2048, .f32⟩
  | .hbm, ⟨9, _⟩ => ⟨S2048x8192, .bf16⟩
  | .hbm, ⟨10, _⟩ => ⟨S8192x2048, .bf16⟩
  | .hbm, ⟨11, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S1x8192x2048 : Shape := ⟨3, ![1, 8192, 2048]⟩
abbrev S2x8192x2048 : Shape := ⟨3, ![2, 8192, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x8192x8192 : Shape := ⟨3, ![1, 8192, 8192]⟩

abbrev nBuf : Space → Nat
  | .hbm => 29
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2x8192x2048, .f32⟩
  | .hbm, ⟨2, _⟩ => ⟨S2048, .f32⟩
  | .hbm, ⟨3, _⟩ => ⟨S2048x8192, .f32⟩
  | .hbm, ⟨4, _⟩ => ⟨S8192x2048, .f32⟩
  | .hbm, ⟨5, _⟩ => ⟨S1x8192x2048, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x2048, .f32⟩
  | .hbm, ⟨17, _⟩ => ⟨S1x8192x2048, .f32⟩
  | .hbm, ⟨18, _⟩ => ⟨S1x1x2048, .f32⟩
  | .hbm, ⟨19, _⟩ => ⟨S1x8192x2048, .f32⟩
  | .hbm, ⟨20, _⟩ => ⟨S1x8192x2048, .f32⟩
  | .hbm, ⟨21, _⟩ => ⟨S1x8192x8192, .f32⟩
  | .hbm, ⟨22, _⟩ => ⟨S_, .f32⟩
  | .hbm, ⟨23, _⟩ => ⟨S1x8192x8192, .f32⟩
  | .hbm, ⟨24, _⟩ => ⟨S1x8192x8192, .f32⟩
  | .hbm, ⟨25, _⟩ => ⟨S1x8192x8192, .f32⟩
  | .hbm, ⟨26, _⟩ => ⟨S1x8192x2048, .f32⟩
  | .hbm, ⟨27, _⟩ => ⟨S1x8192x2048, .f32⟩
  | .hbm, ⟨28, _⟩ => ⟨S8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel3.lean ====
abbrev S1x8192x2048 : Shape := ⟨3, ![1, 8192, 2048]⟩
abbrev S2x8192x2048 : Shape := ⟨3, ![2, 8192, 2048]⟩
abbrev S2048 : Shape := ⟨1, ![2048]⟩
abbrev S2048x8192 : Shape := ⟨2, ![2048, 8192]⟩
abbrev S8192x2048 : Shape := ⟨2, ![8192, 2048]⟩
abbrev S16384x2048 : Shape := ⟨2, ![16384, 2048]⟩
abbrev S24576x2048 : Shape := ⟨2, ![24576, 2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 12
  | .vmem => 10
  | .smem => 0
  | _ => 0

abbrev bufTy : (tb : Table) → Fin (tcTables nBuf tb) → BufTy
  | .hbm, ⟨0, _⟩ => ⟨S1x8192x2048, .f32⟩
  | .hbm, ⟨1, _⟩ => ⟨S2x8192x2048, .f32⟩
  | .hbm, ⟨2, _⟩ => ⟨S2048, .f32⟩
  | .hbm, ⟨3, _⟩ => ⟨S2048x8192, .f32⟩
  | .hbm, ⟨4, _⟩ => ⟨S8192x2048, .f32⟩
  | .hbm, ⟨5, _⟩ => ⟨S8192x2048, .f32⟩
  | .hbm, ⟨6, _⟩ => ⟨S16384x2048, .f32⟩
  | .hbm, ⟨7, _⟩ => ⟨S24576x2048, .f32⟩
  | .hbm, ⟨8, _⟩ => ⟨S1x2048, .f32⟩
  | .hbm, ⟨9, _⟩ => ⟨S2048x8192, .bf16⟩
  | .hbm, ⟨10, _⟩ => ⟨S8192x2048, .bf16⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S1x8192x2048 : Shape := ⟨3, ![1, 8192, 2048]⟩
abbrev S2x8192x2048 : Shape := ⟨3, ![2, 8192, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x8192 : Shape := ⟨3, ![2, 8192, 8192]⟩
abbrev S16384x2048 : Shape := ⟨2, ![16384, 2048]⟩

abbrev nBuf : Space → Nat
  | .hbm => 29
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2x8192x2048, .f32⟩
  | .hbm, ⟨2, _⟩ => ⟨S2048, .f32⟩
  | .hbm, ⟨3, _⟩ => ⟨S2048x8192, .f32⟩
  | .hbm, ⟨4, _⟩ => ⟨S8192x2048, .f32⟩
  | .hbm, ⟨5, _⟩ => ⟨S2x8192x2048, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x2048, .f32⟩
  | .hbm, ⟨17, _⟩ => ⟨S2x8192x2048, .f32⟩
  | .hbm, ⟨18, _⟩ => ⟨S1x1x2048, .f32⟩
  | .hbm, ⟨19, _⟩ => ⟨S2x8192x2048, .f32⟩
  | .hbm, ⟨20, _⟩ => ⟨S2x8192x2048, .f32⟩
  | .hbm, ⟨21, _⟩ => ⟨S2x8192x8192, .f32⟩
  | .hbm, ⟨22, _⟩ => ⟨S_, .f32⟩
  | .hbm, ⟨23, _⟩ => ⟨S2x8192x8192, .f32⟩
  | .hbm, ⟨24, _⟩ => ⟨S2x8192x8192, .f32⟩
  | .hbm, ⟨25, _⟩ => ⟨S2x8192x8192, .f32⟩
  | .hbm, ⟨26, _⟩ => ⟨S2x8192x2048, .f32⟩
  | .hbm, ⟨27, _⟩ => ⟨S2x8192x2048, .f32⟩
  | .hbm, ⟨28, _⟩ => ⟨S16384x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel4.lean ====
abbrev S3x8192x2048 : Shape := ⟨3, ![3, 8192, 2048]⟩
abbrev S2048x2048 : Shape := ⟨2, ![2048, 2048]⟩
abbrev S24576x2048 : Shape := ⟨2, ![24576, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S3x8192x2048, .f32⟩
  | .hbm, ⟨1, _⟩ => ⟨S2048x2048, .f32⟩
  | .hbm, ⟨2, _⟩ => ⟨S3x8192x2048, .f32⟩
  | .hbm, ⟨3, _⟩ => ⟨S24576x2048, .f32⟩
  | .hbm, ⟨4, _⟩ => ⟨S24576x2048, .bf16⟩
  | .hbm, ⟨5, _⟩ => ⟨S2048x2048, .bf16⟩
  | .hbm, ⟨6, _⟩ => ⟨S24576x2048, .f32⟩
  | .hbm, ⟨7, _⟩ => ⟨S24576x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S3x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![24, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S3x8192x2048 : Shape := ⟨3, ![3, 8192, 2048]⟩
abbrev S2048x2048 : Shape := ⟨2, ![2048, 2048]⟩
abbrev S24576x2048 : Shape := ⟨2, ![24576, 2048]⟩

abbrev nBuf : Space → Nat
  | .hbm => 6
  | .vmem => 0
  | .smem => 0
  | _ => 0

abbrev bufTy : (tb : Table) → Fin (tcTables nBuf tb) → BufTy
  | .hbm, ⟨0, _⟩ => ⟨S3x8192x2048, .f32⟩
  | .hbm, ⟨1, _⟩ => ⟨S2048x2048, .f32⟩
  | .hbm, ⟨2, _⟩ => ⟨S3x8192x2048, .f32⟩
  | .hbm, ⟨3, _⟩ => ⟨S3x8192x2048, .f32⟩
  | .hbm, ⟨4, _⟩ => ⟨S3x8192x2048, .f32⟩
  | .hbm, ⟨5, _⟩ => ⟨S24576x2048, .f32⟩
  | _, _ => ⟨S3x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S3x8192x4096 : Shape := ⟨3, ![3, 8192, 4096]⟩
abbrev S4096x2048 : Shape := ⟨2, ![4096, 2048]⟩
abbrev S3x8192x2048 : Shape := ⟨3, ![3, 8192, 2048]⟩
abbrev S24576x4096 : Shape := ⟨2, ![24576, 4096]⟩
abbrev S24576x2048 : Shape := ⟨2, ![24576, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S3x8192x4096, .f32⟩
  | .hbm, ⟨1, _⟩ => ⟨S4096x2048, .f32⟩
  | .hbm, ⟨2, _⟩ => ⟨S3x8192x2048, .f32⟩
  | .hbm, ⟨3, _⟩ => ⟨S24576x4096, .f32⟩
  | .hbm, ⟨4, _⟩ => ⟨S24576x4096, .bf16⟩
  | .hbm, ⟨5, _⟩ => ⟨S4096x2048, .bf16⟩
  | .hbm, ⟨6, _⟩ => ⟨S24576x2048, .f32⟩
  | .hbm, ⟨7, _⟩ => ⟨S24576x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S3x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![24, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S3x8192x4096 : Shape := ⟨3, ![3, 8192, 4096]⟩
abbrev S4096x2048 : Shape := ⟨2, ![4096, 2048]⟩
abbrev S3x8192x2048 : Shape := ⟨3, ![3, 8192, 2048]⟩
abbrev S24576x2048 : Shape := ⟨2, ![24576, 2048]⟩

abbrev nBuf : Space → Nat
  | .hbm => 6
  | .vmem => 0
  | .smem => 0
  | _ => 0

abbrev bufTy : (tb : Table) → Fin (tcTables nBuf tb) → BufTy
  | .hbm, ⟨0, _⟩ => ⟨S3x8192x4096, .f32⟩
  | .hbm, ⟨1, _⟩ => ⟨S4096x2048, .f32⟩
  | .hbm, ⟨2, _⟩ => ⟨S3x8192x2048, .f32⟩
  | .hbm, ⟨3, _⟩ => ⟨S3x8192x2048, .f32⟩
  | .hbm, ⟨4, _⟩ => ⟨S3x8192x2048, .f32⟩
  | .hbm, ⟨5, _⟩ => ⟨S24576x2048, .f32⟩
  | _, _ => ⟨S3x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S3x8192x2048 : Shape := ⟨3, ![3, 8192, 2048]⟩
abbrev S2048 : Shape := ⟨1, ![2048]⟩
abbrev S2048x10368 : Shape := ⟨2, ![2048, 10368]⟩
abbrev S2x64 : Shape := ⟨2, ![2, 64]⟩
abbrev S24576x2048 : Shape := ⟨2, ![24576, 2048]⟩
abbrev S1x2048 : Shape := ⟨2, ![1, 2048]⟩
abbrev S2048x10240 : Shape := ⟨2, ![2048, 10240]⟩
abbrev S2048x128 : Shape := ⟨2, ![2048, 128]⟩
abbrev S1x128 : Shape := ⟨2, ![1, 128]⟩
abbrev S24576x10240 : Shape := ⟨2, ![24576, 10240]⟩
abbrev S24576x128 : Shape := ⟨2, ![24576, 128]⟩
abbrev S1024x2048 : Shape := ⟨2, ![1024, 2048]⟩
abbrev S2048x2048 : Shape := ⟨2, ![2048, 2048]⟩
abbrev S1024x128 : Shape := ⟨2, ![1024, 128]⟩
abbrev S1024 : Shape := ⟨1, ![1024]⟩
abbrev S1024x1 : Shape := ⟨2, ![1024, 1]⟩

abbrev nBuf : Space → Nat
  | .hbm => 16
  | .vmem => 15
  | .smem => 0
  | _ => 0

abbrev bufTy : (tb : Table) → Fin (tcTables nBuf tb) → BufTy
  | .hbm, ⟨0, _⟩ => ⟨S3x8192x2048, .f32⟩
  | .hbm, ⟨1, _⟩ => ⟨S2048, .f32⟩
  | .hbm, ⟨2, _⟩ => ⟨S2048x10368, .f32⟩
  | .hbm, ⟨3, _⟩ => ⟨S2x64, .f32⟩
  | .hbm, ⟨4, _⟩ => ⟨S2x64, .f32⟩
  | .hbm, ⟨5, _⟩ => ⟨S24576x2048, .f32⟩
  | .hbm, ⟨6, _⟩ => ⟨S1x2048, .f32⟩
  | .hbm, ⟨7, _⟩ => ⟨S2048x10240, .f32⟩
  | .hbm, ⟨8, _⟩ => ⟨S2048x10240, .bf16⟩
  | .hbm, ⟨9, _⟩ => ⟨S2048x128, .f32⟩
  | .hbm, ⟨10, _⟩ => ⟨S2048x128, .bf16⟩
  | .hbm, ⟨11, _⟩ => ⟨S1x128, .f32⟩
  | .hbm, ⟨12, _⟩ => ⟨S1x128, .f32⟩
  | .hbm, ⟨13, _⟩ => ⟨S24576x10240, .bf16⟩
  | .hbm, ⟨14, _⟩ => ⟨S24576x128, .f32⟩
  | .hbm, ⟨15, _⟩ => ⟨S24576x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S2048x128, .bf16⟩
  | .local _ .vmem, ⟨6, _⟩ => ⟨S1x128, .f32⟩
  | .local _ .vmem, ⟨7, _⟩ => ⟨S1x128, .f32⟩
  | .local _ .vmem, ⟨8, _⟩ => ⟨S1024x2048, .bf16⟩
  | .local _ .vmem, ⟨9, _⟩ => ⟨S1024x2048, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x2048, .bf16⟩
  | _, _ => ⟨S3x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![24, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Kernel6Ideal.lean ====
variable {F : FTy → Type} [FloatOps F] [Named F]
def κ : String → Option EReal := fun
  | "log2e" => some (((Real.log 2)⁻¹ : ℝ) : EReal)
  | _ => none
-- ==== Reference6Ideal.lean ====
abbrev S3x8192x2048 : Shape := ⟨3, ![3, 8192, 2048]⟩
abbrev S2048 : Shape := ⟨1, ![2048]⟩
abbrev S2048x10368 : Shape := ⟨2, ![2048, 10368]⟩
abbrev S2x64 : Shape := ⟨2, ![2, 64]⟩
abbrev S_ : Shape := ⟨0, ![]⟩
abbrev S3x8192 : Shape := ⟨2, ![3, 8192]⟩
abbrev S3x8192x1 : Shape := ⟨3, ![3, 8192, 1]⟩
abbrev S1x1x2048 : Shape := ⟨3, ![1, 1, 2048]⟩
abbrev S3x8192x10368 : Shape := ⟨3, ![3, 8192, 10368]⟩
abbrev S3x8192x128 : Shape := ⟨3, ![3, 8192, 128]⟩
abbrev S3x8192x2x64 : Shape := ⟨4, ![3, 8192, 2, 64]⟩
abbrev S1x1x2x64 : Shape := ⟨4, ![1, 1, 2, 64]⟩
abbrev S3x8192x1x64 : Shape := ⟨4, ![3, 8192, 1, 64]⟩
abbrev S3x8192x64 : Shape := ⟨3, ![3, 8192, 64]⟩
abbrev S1x64 : Shape := ⟨2, ![1, 64]⟩
abbrev S64 : Shape := ⟨1, ![64]⟩
abbrev S1x1x64 : Shape := ⟨3, ![1, 1, 64]⟩
abbrev S3x64x128x64 : Shape := ⟨4, ![3, 64, 128, 64]⟩
abbrev S3x8192x10240 : Shape := ⟨3, ![3, 8192, 10240]⟩
abbrev S24576x10240 : Shape := ⟨2, ![24576, 10240]⟩
abbrev S24576x128 : Shape := ⟨2, ![24576, 128]⟩

abbrev nBuf : Space → Nat
  | .hbm => 81
  | .vmem => 0
  | .smem => 0
  | _ => 0

abbrev bufTy : (tb : Table) → Fin (tcTables nBuf tb) → BufTy
  | .hbm, ⟨0, _⟩ => ⟨S3x8192x2048, .f32⟩
  | .hbm, ⟨1, _⟩ => ⟨S2048, .f32⟩
  | .hbm, ⟨2, _⟩ => ⟨S2048x10368, .f32⟩
  | .hbm, ⟨3, _⟩ => ⟨S2x64, .f32⟩
  | .hbm, ⟨4, _⟩ => ⟨S2x64, .f32⟩
  | .hbm, ⟨5, _⟩ => ⟨S3x8192x2048, .f32⟩
  | .hbm, ⟨6, _⟩ => ⟨S_, .f32⟩
  | .hbm, ⟨7, _⟩ => ⟨S3x8192, .f32⟩
  | .hbm, ⟨8, _⟩ => ⟨S3x8192x1, .f32⟩
  | .hbm, ⟨9, _⟩ => ⟨S_, .f32⟩
  | .hbm, ⟨10, _⟩ => ⟨S3x8192x1, .f32⟩
  | .hbm, ⟨11, _⟩ => ⟨S3x8192x1, .f32⟩
  | .hbm, ⟨12, _⟩ => ⟨S_, .f32⟩
  | .hbm, ⟨13, _⟩ => ⟨S3x8192x1, .f32⟩
  | .hbm, ⟨14, _⟩ => ⟨S3x8192x1, .f32⟩
  | .hbm, ⟨15, _⟩ => ⟨S3x8192x1, .f32⟩
  | .hbm, ⟨16, _⟩ => ⟨S3x8192x2048, .f32⟩
  | .hbm, ⟨17, _⟩ => ⟨S3x8192x2048, .f32⟩
  | .hbm, ⟨18, _⟩ => ⟨S1x1x2048, .f32⟩
  | .hbm, ⟨19, _⟩ => ⟨S3x8192x2048, .f32⟩
  | .hbm, ⟨20, _⟩ => ⟨S3x8192x2048, .f32⟩
  | .hbm, ⟨21, _⟩ => ⟨S3x8192x10368, .f32⟩
  | .hbm, ⟨22, _⟩ => ⟨S3x8192x128, .f32⟩
  | .hbm, ⟨23, _⟩ => ⟨S3x8192x2x64, .f32⟩
  | .hbm, ⟨24, _⟩ => ⟨S1x1x2x64, .f32⟩
  | .hbm, ⟨25, _⟩ => ⟨S3x8192x2x64, .f32⟩
  | .hbm, ⟨26, _⟩ => ⟨S3x8192x2x64, .f32⟩
  | .hbm, ⟨27, _⟩ => ⟨S_, .f32⟩
  | .hbm, ⟨28, _⟩ => ⟨S3x8192x2x64, .f32⟩
  | .hbm, ⟨29, _⟩ => ⟨S3x8192x2x64, .f32⟩
  | .hbm, ⟨30, _⟩ => ⟨S3x8192x2x64, .f32⟩
  | .hbm, ⟨31, _⟩ => ⟨S3x8192x2x64, .f32⟩
  | .hbm, ⟨32, _⟩ => ⟨S3x8192x2x64, .i1⟩
  | .hbm, ⟨33, _⟩ => ⟨S3x8192x2x64, .f32⟩
  | .hbm, ⟨34, _⟩ => ⟨S3x8192x2x64, .f32⟩
  | .hbm, ⟨35, _⟩ => ⟨S3x8192x2x64, .f32⟩
  | .hbm, ⟨36, _⟩ => ⟨S3x8192x2x64, .f32⟩
  | .hbm, ⟨37, _⟩ => ⟨S3x8192x2x64, .f32⟩
  | .hbm, ⟨38, _⟩ => ⟨S3x8192x2x64, .f32⟩
  | .hbm, ⟨39, _⟩ => ⟨S3x8192x2x64, .f32⟩
  | .hbm, ⟨40, _⟩ => ⟨S3x8192x2x64, .f32⟩
  | .hbm, ⟨41, _⟩ => ⟨S2x64, .f32⟩
  | .hbm, ⟨42, _⟩ => ⟨S2x64, .f32⟩
  | .hbm, ⟨43, _⟩ => ⟨S3x8192x1x64, .f32⟩
  | .hbm, ⟨44, _⟩ => ⟨S3x8192x64, .f32⟩
  | .hbm, ⟨45, _⟩ => ⟨S1x64, .f32⟩
  | .hbm, ⟨46, _⟩ => ⟨S64, .f32⟩
  | .hbm, ⟨47, _⟩ => ⟨S1x1x64, .f32⟩
  | .hbm, ⟨48, _⟩ => ⟨S3x8192x64, .f32⟩
  | .hbm, ⟨49, _⟩ => ⟨S3x8192x64, .f32⟩
  | .hbm, ⟨50, _⟩ => ⟨S3x64x128x64, .f32⟩
  | .hbm, ⟨51, _⟩ => ⟨S_, .f32⟩
  | .hbm, ⟨52, _⟩ => ⟨S_, .f32⟩
  | .hbm, ⟨53, _⟩ => ⟨S3x64x128x64, .f32⟩
  | .hbm, ⟨54, _⟩ => ⟨S3x8192x64, .f32⟩
  | .hbm, ⟨55, _⟩ => ⟨S3x8192x1x64, .f32⟩
  | .hbm, ⟨56, _⟩ => ⟨S3x8192x64, .f32⟩
  | .hbm, ⟨57, _⟩ => ⟨S3x8192x64, .f32⟩
  | .hbm, ⟨58, _⟩ => ⟨S1x64, .f32⟩
  | .hbm, ⟨59, _⟩ => ⟨S64, .f32⟩
  | .hbm, ⟨60, _⟩ => ⟨S1x1x64, .f32⟩
  | .hbm, ⟨61, _⟩ => ⟨S3x8192x64, .f32⟩
  | .hbm, ⟨62, _⟩ => ⟨S3x8192x64, .f32⟩
  | .hbm, ⟨63, _⟩ => ⟨S3x64x128x64, .f32⟩
  | .hbm, ⟨64, _⟩ => ⟨S_, .f32⟩
  | .hbm, ⟨65, _⟩ => ⟨S_, .f32⟩
  | .hbm, ⟨66, _⟩ => ⟨S3x64x128x64, .f32⟩
  | .hbm, ⟨67, _⟩ => ⟨S3x8192x64, .f32⟩
  | .hbm, ⟨68, _⟩ => ⟨S3x8192x64, .f32⟩
  | .hbm, ⟨69, _⟩ => ⟨S3x8192x1x64, .f32⟩
  | .hbm, ⟨70, _⟩ => ⟨S3x8192x1x64, .f32⟩
  | .hbm, ⟨71, _⟩ => ⟨S3x8192x2x64, .f32⟩
  | .hbm, ⟨72, _⟩ => ⟨S_, .f32⟩
  | .hbm, ⟨73, _⟩ => ⟨S_, .f32⟩
  | .hbm, ⟨74, _⟩ => ⟨S3x8192x2x64, .f32⟩
  | .hbm, ⟨75, _⟩ => ⟨S3x8192x2x64, .f32⟩
  | .hbm, ⟨76, _⟩ => ⟨S3x8192x10240, .f32⟩
  | .hbm, ⟨77, _⟩ => ⟨S24576x10240, .f32⟩
  | .hbm, ⟨78, _⟩ => ⟨S24576x10240, .bf16⟩
  | .hbm, ⟨79, _⟩ => ⟨S24576x128, .f32⟩
  | .hbm, ⟨80, _⟩ => ⟨S24576x128, .f32⟩
  | _, _ => ⟨S3x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call1_call0_cst : Ref sig .tc := ⟨.hbm, 51, rfl⟩
abbrev main_call1_call0_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call3_call0_cst : Ref sig .tc := ⟨.hbm, 64, rfl⟩
abbrev main_call3_call0_v0 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_2 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩

abbrev nD : Nat := 1
abbrev τ : Topo := Topo.v7x

variable {F : FTy → Type} [FloatOps F]
-- ==== Kernel7.lean ====
abbrev S3x8192x2048 : Shape := ⟨3, ![3, 8192, 2048]⟩
abbrev S2048 : Shape := ⟨1, ![2048]⟩
abbrev S2048x4096 : Shape := ⟨2, ![2048, 4096]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S8192x2 : Shape := ⟨2, ![8192, 2]⟩
abbrev S8192x2x1 : Shape := ⟨3, ![8192, 2, 1]⟩
abbrev S1x1x32 : Shape := ⟨3, ![1, 1, 32]⟩
abbrev S8192x2x32 : Shape := ⟨3, ![8192, 2, 32]⟩
abbrev S8192x64 : Shape := ⟨2, ![8192, 64]⟩
abbrev S8192x128 : Shape := ⟨2, ![8192, 128]⟩
abbrev S1x128 : Shape := ⟨2, ![1, 128]⟩
abbrev S2x128 : Shape := ⟨2, ![2, 128]⟩
abbrev S2x1x2x2x32 : Shape := ⟨5, ![2, 1, 2, 2, 32]⟩
abbrev S2048x3072 : Shape := ⟨2, ![2048, 3072]⟩
abbrev S2048x24x2x2x32 : Shape := ⟨5, ![2048, 24, 2, 2, 32]⟩
abbrev S2048x1024 : Shape := ⟨2, ![2048, 1024]⟩
abbrev S24576x2048 : Shape := ⟨2, ![24576, 2048]⟩
abbrev S1x2048 : Shape := ⟨2, ![1, 2048]⟩
abbrev S24576x4096 : Shape := ⟨2, ![24576, 4096]⟩
abbrev S512x2048 : Shape := ⟨2, ![512, 2048]⟩
abbrev S512x128 : Shape := ⟨2, ![512, 128]⟩
abbrev S512x4096 : Shape := ⟨2, ![512, 4096]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 66
  | .vmem => 11
  | .smem => 0
  | _ => 0

abbrev bufTy : (tb : Table) → Fin (tcTables nBuf tb) → BufTy
  | .hbm, ⟨0, _⟩ => ⟨S3x8192x2048, .f32⟩
  | .hbm, ⟨1, _⟩ => ⟨S2048, .f32⟩
  | .hbm, ⟨2, _⟩ => ⟨S2048x4096, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x64, .f32⟩
  | .hbm, ⟨7, _⟩ => ⟨S8192, .f32⟩
  | .hbm, ⟨8, _⟩ => ⟨S64, .f32⟩
  | .hbm, ⟨9, _⟩ => ⟨S1x64, .f32⟩
  | .hbm, ⟨10, _⟩ => ⟨S128x64, .f32⟩
  | .hbm, ⟨11, _⟩ => ⟨S8192, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S8192x1, .f32⟩
  | .hbm, ⟨27, _⟩ => ⟨S8192x1, .f32⟩
  | .hbm, ⟨28, _⟩ => ⟨S8192x2, .f32⟩
  | .hbm, ⟨29, _⟩ => ⟨S8192x2x1, .f32⟩
  | .hbm, ⟨30, _⟩ => ⟨S1x1x32, .f32⟩
  | .hbm, ⟨31, _⟩ => ⟨S8192x2x32, .f32⟩
  | .hbm, ⟨32, _⟩ => ⟨S8192x2x32, .f32⟩
  | .hbm, ⟨33, _⟩ => ⟨S8192x2x32, .f32⟩
  | .hbm, ⟨34, _⟩ => ⟨S8192x2x32, .f32⟩
  | .hbm, ⟨35, _⟩ => ⟨S8192x64, .f32⟩
  | .hbm, ⟨36, _⟩ => ⟨S8192x2x32, .f32⟩
  | .hbm, ⟨37, _⟩ => ⟨S8192x64, .f32⟩
  | .hbm, ⟨38, _⟩ => ⟨S8192x128, .f32⟩
  | .hbm, ⟨39, _⟩ => ⟨S8192x64, .f32⟩
  | .hbm, ⟨40, _⟩ => ⟨S8192x128, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S1x128, .f32⟩
  | .hbm, ⟨51, _⟩ => ⟨S1x128, .f32⟩
  | .hbm, ⟨52, _⟩ => ⟨S2x128, .f32⟩
  | .hbm, ⟨53, _⟩ => ⟨S2x1x2x2x32, .f32⟩
  | .hbm, ⟨54, _⟩ => ⟨S2x1x2x2x32, .f32⟩
  | .hbm, ⟨55, _⟩ => ⟨S2x128, .f32⟩
  | .hbm, ⟨56, _⟩ => ⟨S2048x4096, .bf16⟩
  | .hbm, ⟨57, _⟩ => ⟨S2048x3072, .bf16⟩
  | .hbm, ⟨58, _⟩ => ⟨S2048x24x2x2x32, .bf16⟩
  | .hbm, ⟨59, _⟩ => ⟨S2048x24x2x2x32, .bf16⟩
  | .hbm, ⟨60, _⟩ => ⟨S2048x3072, .bf16⟩
  | .hbm, ⟨61, _⟩ => ⟨S2048x1024, .bf16⟩
  | .hbm, ⟨62, _⟩ => ⟨S2048x4096, .bf16⟩
  | .hbm, ⟨63, _⟩ => ⟨S24576x2048, .f32⟩
  | .hbm, ⟨64, _⟩ => ⟨S1x2048, .f32⟩
  | .hbm, ⟨65, _⟩ => ⟨S24576x4096, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4096, .bf16⟩
  | .local _ .vmem, ⟨4, _⟩ => ⟨S2x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x4096, .bf16⟩
  | .local _ .vmem, ⟨10, _⟩ => ⟨S512x4096, .bf16⟩
  | _, _ => ⟨S3x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S3x8192x2048 : Shape := ⟨3, ![3, 8192, 2048]⟩
abbrev S2048 : Shape := ⟨1, ![2048]⟩
abbrev S2048x4096 : Shape := ⟨2, ![2048, 4096]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S8192x2 : Shape := ⟨2, ![8192, 2]⟩
abbrev S8192x2x1 : Shape := ⟨3, ![8192, 2, 1]⟩
abbrev S1x1x32 : Shape := ⟨3, ![1, 1, 32]⟩
abbrev S8192x2x32 : Shape := ⟨3, ![8192, 2, 32]⟩
abbrev S3x8192 : Shape := ⟨2, ![3, 8192]⟩
abbrev S3x8192x1 : Shape := ⟨3, ![3, 8192, 1]⟩
abbrev S1x1x2048 : Shape := ⟨3, ![1, 1, 2048]⟩
abbrev S3x8192x4096 : Shape := ⟨3, ![3, 8192, 4096]⟩
abbrev S3x8192x16x128 : Shape := ⟨4, ![3, 8192, 16, 128]⟩
abbrev S3x8192x1024 : Shape := ⟨3, ![3, 8192, 1024]⟩
abbrev S3x8192x8x128 : Shape := ⟨4, ![3, 8192, 8, 128]⟩
abbrev S3x8192x16 : Shape := ⟨3, ![3, 8192, 16]⟩
abbrev S3x8192x16x1 : Shape := ⟨4, ![3, 8192, 16, 1]⟩
abbrev S1x1x1x128 : Shape := ⟨4, ![1, 1, 1, 128]⟩
abbrev S1x8192x1x2x32 : Shape := ⟨5, ![1, 8192, 1, 2, 32]⟩
abbrev S3x8192x16x2x2x32 : Shape := ⟨6, ![3, 8192, 16, 2, 2, 32]⟩
abbrev S3x8192x16x2x1x32 : Shape := ⟨6, ![3, 8192, 16, 2, 1, 32]⟩
abbrev S3x8192x16x2x32 : Shape := ⟨5, ![3, 8192, 16, 2, 32]⟩
abbrev S3x8192x16x1x2x32 : Shape := ⟨6, ![3, 8192, 16, 1, 2, 32]⟩
abbrev S3x8192x8 : Shape := ⟨3, ![3, 8192, 8]⟩
abbrev S3x8192x8x1 : Shape := ⟨4, ![3, 8192, 8, 1]⟩
abbrev S3x8192x8x2x2x32 : Shape := ⟨6, ![3, 8192, 8, 2, 2, 32]⟩
abbrev S3x8192x8x2x1x32 : Shape := ⟨6, ![3, 8192, 8, 2, 1, 32]⟩
abbrev S3x8192x8x2x32 : Shape := ⟨5, ![3, 8192, 8, 2, 32]⟩
abbrev S3x8192x8x1x2x32 : Shape := ⟨6, ![3, 8192, 8, 1, 2, 32]⟩
abbrev S24576x2048 : Shape := ⟨2, ![24576, 2048]⟩
abbrev S24576x1024 : Shape := ⟨2, ![24576, 1024]⟩
abbrev S24576x4096 : Shape := ⟨2, ![24576, 4096]⟩

abbrev nBuf : Space → Nat
  | .hbm => 142
  | .vmem => 0
  | .smem => 0
  | _ => 0

abbrev hbmTy0_0 (i : Nat) : BufTy := match i % 128 with
  | 0 => ⟨S3x8192x2048, .f32⟩
  | 1 => ⟨S2048, .f32⟩
  | 2 => ⟨S2048x4096, .f32⟩
  | 3 => ⟨S128, .f32⟩
  | 4 => ⟨S128, .f32⟩
  | 5 => ⟨S128, .f32⟩
  | 6 => ⟨S128x64, .f32⟩
  | 7 => ⟨S8192, .f32⟩
  | 8 => ⟨S64, .f32⟩
  | 9 => ⟨S1x64, .f32⟩
  | 10 => ⟨S128x64, .f32⟩
  | 11 => ⟨S8192, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S8192x1, .f32⟩
  | 27 => ⟨S8192x1, .f32⟩
  | 28 => ⟨S8192x2, .f32⟩
  | 29 => ⟨S8192x2x1, .f32⟩
  | 30 => ⟨S1x1x32, .f32⟩
  | 31 => ⟨S8192x2x32, .f32⟩
  | 32 => ⟨S8192x2x32, .f32⟩
  | 33 => ⟨S8192x2x32, .f32⟩
  | 34 => ⟨S8192x2x32, .f32⟩
  | 35 => ⟨S8192x2x32, .f32⟩
  | 36 => ⟨S3x8192x2048, .f32⟩
  | 37 => ⟨S_, .f32⟩
  | 38 => ⟨S3x8192, .f32⟩
  | 39 => ⟨S3x8192x1, .f32⟩
  | 40 => ⟨S_, .f32⟩
  | 41 => ⟨S3x8192x1, .f32⟩
  | 42 => ⟨S3x8192x1, .f32⟩
  | 43 => ⟨S_, .f32⟩
  | 44 => ⟨S3x8192x1, .f32⟩
  | 45 => ⟨S3x8192x1, .f32⟩
  | 46 => ⟨S3x8192x1, .f32⟩
  | 47 => ⟨S3x8192x2048, .f32⟩
  | 48 => ⟨S3x8192x2048, .f32⟩
  | 49 => ⟨S1x1x2048, .f32⟩
  | 50 => ⟨S3x8192x2048, .f32⟩
  | 51 => ⟨S3x8192x2048, .f32⟩
  | 52 => ⟨S3x8192x4096, .f32⟩
  | 53 => ⟨S3x8192x2048, .f32⟩
  | 54 => ⟨S3x8192x16x128, .f32⟩
  | 55 => ⟨S3x8192x1024, .f32⟩
  | 56 => ⟨S3x8192x8x128, .f32⟩
  | 57 => ⟨S3x8192x1024, .f32⟩
  | 58 => ⟨S3x8192x16x128, .f32⟩
  | 59 => ⟨S_, .f32⟩
  | 60 => ⟨S3x8192x16, .f32⟩
  | 61 => ⟨S3x8192x16x1, .f32⟩
  | 62 => ⟨S_, .f32⟩
  | 63 => ⟨S3x8192x16x1, .f32⟩
  | 64 => ⟨S3x8192x16x1, .f32⟩
  | 65 => ⟨S_, .f32⟩
  | 66 => ⟨S3x8192x16x1, .f32⟩
  | 67 => ⟨S3x8192x16x1, .f32⟩
  | 68 => ⟨S3x8192x16x1, .f32⟩
  | 69 => ⟨S3x8192x16x128, .f32⟩
  | 70 => ⟨S3x8192x16x128, .f32⟩
  | 71 => ⟨S1x1x1x128, .f32⟩
  | 72 => ⟨S3x8192x16x128, .f32⟩
  | 73 => ⟨S3x8192x16x128, .f32⟩
  | 74 => ⟨S1x8192x1x2x32, .f32⟩
  | 75 => ⟨S1x8192x1x2x32, .f32⟩
  | 76 => ⟨S3x8192x16x2x2x32, .f32⟩
  | 77 => ⟨S3x8192x16x2x1x32, .f32⟩
  | 78 => ⟨S3x8192x16x2x32, .f32⟩
  | 79 => ⟨S3x8192x16x2x1x32, .f32⟩
  | 80 => ⟨S3x8192x16x2x32, .f32⟩
  | 81 => ⟨S3x8192x16x2x32, .f32⟩
  | 82 => ⟨S3x8192x16x2x32, .f32⟩
  | 83 => ⟨S3x8192x16x2x32, .f32⟩
  | 84 => ⟨S3x8192x16x2x32, .f32⟩
  | 85 => ⟨S3x8192x16x2x32, .f32⟩
  | 86 => ⟨S3x8192x16x2x32, .f32⟩
  | 87 => ⟨S3x8192x16x2x32, .f32⟩
  | 88 => ⟨S3x8192x16x2x32, .f32⟩
  | 89 => ⟨S3x8192x16x2x32, .f32⟩
  | 90 => ⟨S3x8192x16x2x32, .f32⟩
  | 91 => ⟨S3x8192x16x1x2x32, .f32⟩
  | 92 => ⟨S3x8192x16x1x2x32, .f32⟩
  | 93 => ⟨S3x8192x16x2x2x32, .f32⟩
  | 94 => ⟨S_, .f32⟩
  | 95 => ⟨S_, .f32⟩
  | 96 => ⟨S_, .f32⟩
  | 97 => ⟨S_, .f32⟩
  | 98 => ⟨S_, .f32⟩
  | 99 => ⟨S3x8192x16x2x2x32, .f32⟩
  | 100 => ⟨S3x8192x16x2x2x32, .f32⟩
  | 101 => ⟨S3x8192x8x128, .f32⟩
  | 102 => ⟨S_, .f32⟩
  | 103 => ⟨S3x8192x8, .f32⟩
  | 104 => ⟨S3x8192x8x1, .f32⟩
  | 105 => ⟨S_, .f32⟩
  | 106 => ⟨S3x8192x8x1, .f32⟩
  | 107 => ⟨S3x8192x8x1, .f32⟩
  | 108 => ⟨S_, .f32⟩
  | 109 => ⟨S3x8192x8x1, .f32⟩
  | 110 => ⟨S3x8192x8x1, .f32⟩
  | 111 => ⟨S3x8192x8x1, .f32⟩
  | 112 => ⟨S3x8192x8x128, .f32⟩
  | 113 => ⟨S3x8192x8x128, .f32⟩
  | 114 => ⟨S1x1x1x128, .f32⟩
  | 115 => ⟨S3x8192x8x128, .f32⟩
  | 116 => ⟨S3x8192x8x128, .f32⟩
  | 117 => ⟨S1x8192x1x2x32, .f32⟩
  | 118 => ⟨S1x8192x1x2x32, .f32⟩
  | 119 => ⟨S3x8192x8x2x2x32, .f32⟩
  | 120 => ⟨S3x8192x8x2x1x32, .f32⟩
  | 121 => ⟨S3x8192x8x2x32, .f32⟩
  | 122 => ⟨S3x8192x8x2x1x32, .f32⟩
  | 123 => ⟨S3x8192x8x2x32, .f32⟩
  | 124 => ⟨S3x8192x8x2x32, .f32⟩
  | 125 => ⟨S3x8192x8x2x32, .f32⟩
  | 126 => ⟨S3x8192x8x2x32, .f32⟩
  | 127 => ⟨S3x8192x8x2x32, .f32⟩
  | _ => ⟨S3x8192x2048, .f32⟩

abbrev hbmTy0_1 (i : Nat) : BufTy := match i % 128 with
  | 0 => ⟨S3x8192x8x2x32, .f32⟩
  | 1 => ⟨S3x8192x8x2x32, .f32⟩
  | 2 => ⟨S3x8192x8x2x32, .f32⟩
  | 3 => ⟨S3x8192x8x2x32, .f32⟩
  | 4 => ⟨S3x8192x8x2x32, .f32⟩
  | 5 => ⟨S3x8192x8x2x32, .f32⟩
  | 6 => ⟨S3x8192x8x1x2x32, .f32⟩
  | 7 => ⟨S3x8192x8x1x2x32, .f32⟩
  | 8 => ⟨S3x8192x8x2x2x32, .f32⟩
  | 9 => ⟨S24576x2048, .f32⟩
  | 10 => ⟨S24576x1024, .f32⟩
  | 11 => ⟨S24576x1024, .f32⟩
  | 12 => ⟨S24576x4096, .f32⟩
  | 13 => ⟨S24576x4096, .bf16⟩
  | _ => ⟨S3x8192x2048, .f32⟩

abbrev hbmTy (i : Nat) : BufTy := match i / 128 with
  | 0 => hbmTy0_0 i
  | 1 => hbmTy0_1 i
  | _ => ⟨S3x8192x2048, .f32⟩

abbrev bufTy : (tb : Table) → Fin (tcTables nBuf tb) → BufTy
  | .hbm, ⟨i, _⟩ => hbmTy i
  | _, _ => ⟨S3x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_cst_9 : Ref sig .tc := ⟨.hbm, 94, rfl⟩
abbrev main_v79 : Ref sig .tc := ⟨.hbm, 95, rfl⟩
abbrev main_cst_10 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_11 : Ref sig .tc := ⟨.hbm, 102, rfl⟩
abbrev main_v85 : Ref sig .tc := ⟨.hbm, 103, rfl⟩
abbrev main_v86 : Ref sig .tc := ⟨.hbm, 104, rfl⟩
abbrev main_cst_12 : Ref sig .tc := ⟨.hbm, 105, rfl⟩
abbrev main_v87 : Ref sig .tc := ⟨.hbm, 106, rfl⟩
abbrev main_v88 : Ref sig .tc := ⟨.hbm, 107, rfl⟩
abbrev main_cst_13 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩

abbrev nD : Nat := 1
abbrev τ : Topo := Topo.v7x

variable {F : FTy → Type} [FloatOps F]
-- ==== Proof.SoftMath.lean ====
/- The softmax over the reals: its shift by a real number cancels, and a power of two is an exponential at a scaled argument. -/
module

public import Idealize.ShloMosaic.Lib.Pipeline.ValueKit
public import Idealize.ShloMosaic.Lib.Claim

@[expose] public section

noncomputable section

namespace Cert.SoftMath

open Idealize.ShloMosaic

/-- A sum of reals, read in the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The greatest of reals over a nonempty set is real. -/
theorem fold_max_real {ι : Type} (S : Finset ι) (x : ι → ℝ) (y : EReal) (hy : y = ⊥) (i : ι) (hi : i ∈ S) :
    ∃ μ : ℝ, S.fold max y (fun i => (x i : EReal)) = (μ : EReal) := by
  subst hy
  have h : S.fold max ⊥ (fun i => (x i : EReal)) = S.sup fun i => (x i : EReal) := rfl
  obtain ⟨j, -, hj⟩ := Finset.exists_mem_eq_sup S ⟨i, hi⟩ fun i => (x i : EReal)
  exact ⟨x j, h.trans hj⟩

/-- A reduction by the maximum over real elements, at an index some element is reduced into, is real. -/
theorem reduce_max_real {s t u : Shape} {axes : List (Fin s.rank)} (h : s.ReducesTo axes t) (hu : 0 < u.numel) (z : FVec Ideal s .f32)
    (y : FVec Ideal u .f32) (hy : y (Shape.Idx.first hu) = (⊥ : EReal)) (hz : ∀ i, ∃ r : ℝ, z i = (r : EReal)) (j : t.Idx) (i : s.Idx)
    (hi : h.drop i = j) : ∃ μ : ℝ, Host.reduce FloatOps.maximumf z y h hu j = (μ : EReal) := by
  choose r hr using hz
  obtain ⟨μ, hμ⟩ := fold_max_real (Finset.univ.filter fun i => h.drop i = j) r (y (Shape.Idx.first hu)) hy i
    (Finset.mem_filter.mpr ⟨Finset.mem_univ _, hi⟩)
  refine ⟨μ, Eq.trans ?_ hμ⟩
  rw [show (fun i => (r i : EReal)) = z from (funext hr).symm]
  exact Host.reduce_eq_fold (α := EReal) max z y h hu j

/-- A number of absolute value below infinity is real. -/
theorem real_of_abs_lt (x : EReal) (h : max x (-x) < ⊤) : ∃ r : ℝ, x = (r : EReal) := by
  induction x using EReal.rec with
  | bot => simp at h
  | coe r => exact ⟨r, rfl⟩
  | top => simp at h

/-- A weight of the softmax is the same from shifted exponentials as from plain ones. -/
theorem shift {n : ℕ} (x : Fin n → ℝ) (μ : ℝ) (s : Fin n) :
    Real.exp (x s - μ) * (1 / ∑ s, Real.exp (x s - μ)) = Real.exp (x s) * (1 / ∑ s, Real.exp (x s)) := by
  have e : ∀ s, Real.exp (x s - μ) = Real.exp (x s) * Real.exp (-μ) := fun s => by rw [sub_eq_add_neg, Real.exp_add]
  simp only [e]
  have hS : ∑ s, Real.exp (x s) * Real.exp (-μ) = (∑ s, Real.exp (x s)) * Real.exp (-μ) := (Finset.sum_mul _ _ _).symm
  rw [hS]
  have h0 := (Real.exp_pos (-μ)).ne'
  rw [one_div, one_div, mul_inv]
  field_simp

/-- A factor that is real and not negative comes out of a sum of any extended reals. -/
theorem sum_mul_real {ι : Type} (S : Finset ι) (f : ι → EReal) (r : ℝ) (hr : 0 ≤ r) : ∑ i ∈ S, f i * (r : EReal) = (∑ i ∈ S, f i) * (r : EReal) := by
  classical
  induction S using Finset.induction_on with
  | empty => simp
  | insert a S ha ih =>
    rw [Finset.sum_insert ha, Finset.sum_insert ha, ih,
      EReal.right_distrib_of_nonneg_of_ne_top (EReal.coe_nonneg.mpr hr) (EReal.coe_ne_top r)]

/-- A sum of exponentials over a nonempty index is not zero. -/
theorem sum_exp_ne {n : ℕ} [NeZero n] (x : Fin n → ℝ) : ∑ s, Real.exp (x s) ≠ 0 :=
  (Finset.sum_pos (fun s _ => Real.exp_pos (x s)) ⟨0, Finset.mem_univ _⟩).ne'

/-- The softmax's mean of `v`, whose elements need not be real, at scores scaled by `a` and shifted by a real is the mean weighted by powers of two of the scores with
    the scale, divided by the logarithm of two, moved onto the query. -/
theorem soft_eq {n d : ℕ} [NeZero n] (k : Fin n → Fin d → ℝ) (q : Fin d → ℝ) (v : Fin n → EReal) (a c μ : ℝ) (hc : c * Real.log 2 = a) :
    ∑ s, v s * Ideal.div (Ideal.exp ((∑ l, (k s l : EReal) * (q l : EReal)) * (a : EReal) - (μ : EReal)))
        (∑ s, Ideal.exp ((∑ l, (k s l : EReal) * (q l : EReal)) * (a : EReal) - (μ : EReal)))
      = Ideal.div (∑ s, v s * Ideal.exp2 (∑ l, (k s l : EReal) * ((q l : EReal) * (c : EReal))))
          (∑ s, Ideal.exp2 (∑ l, (k s l : EReal) * ((q l : EReal) * (c : EReal)))) := by
  have e1 : ∀ s, Ideal.exp ((∑ l, (k s l : EReal) * (q l : EReal)) * (a : EReal) - (μ : EReal))
      = ((Real.exp ((∑ l, k s l * q l) * a - μ) : ℝ) : EReal) := fun s => by
    rw [← Ideal.exp_coe, EReal.coe_sub, EReal.coe_mul, coe_sum]
    simp only [EReal.coe_mul]
  have e2 : ∀ s, Ideal.exp2 (∑ l, (k s l : EReal) * ((q l : EReal) * (c : EReal)))
      = ((Real.exp ((∑ l, k s l * q l) * a) : ℝ) : EReal) := fun s => by
    have : (∑ l, (k s l : EReal) * ((q l : EReal) * (c : EReal))) = ((∑ l, k s l * (q l * c) : ℝ) : EReal) := by
      rw [coe_sum]; simp only [EReal.coe_mul]
    rw [this, Ideal.exp2_coe]
    refine congrArg _ ((Real.rpow_def_of_pos two_pos _).trans (congrArg Real.exp ?_))
    rw [← hc, Finset.mul_sum, Finset.sum_mul]
    exact Finset.sum_congr rfl fun l _ => by ring
  simp only [e1, e2]
  rw [← coe_sum, ← coe_sum]
  simp only [Ideal.div_coe (sum_exp_ne _)]
  refine (Finset.sum_congr rfl fun s _ => ?_).trans
    (sum_mul_real _ _ _ (one_div_nonneg.mpr (Finset.sum_nonneg fun s _ => (Real.exp_pos ((∑ l, k s l * q l) * a)).le)))
  rw [mul_assoc, ← EReal.coe_mul, ← EReal.coe_mul, shift (fun s => (∑ l, k s l * q l) * a) μ s]

/-- The scale of the scores: one over the square root of the head dimension. -/
theorem scale_ref : Ideal.div 1 (Ideal.sqrt (Ideal.ofBits .f32 1124073472#32)) = ((1 / Real.sqrt 128 : ℝ) : EReal) := by
  have h : Ideal.ofBits .f32 1124073472#32 = ((128 : ℝ) : EReal) := by
    simp [Ideal.ofBits, Ideal.ieee, -EReal.coe_mul]; norm_num
  have h0 : Real.sqrt 128 ≠ 0 := (Real.sqrt_pos.mpr (by norm_num)).ne'
  rw [h, Ideal.sqrt_coe, if_neg (by norm_num), Ideal.div_coe h0, one_mul]

/-- The scale the host puts on the queries: that, over the logarithm of two. -/
theorem scale_host : Ideal.div 1 (Ideal.sqrt (Ideal.ofBits .f32 1124073472#32) * Ideal.log (Ideal.ofBits .f32 0x40000000#32))
    = ((1 / (Real.sqrt 128 * Real.log 2) : ℝ) : EReal) := by
  have h : Ideal.ofBits .f32 1124073472#32 = ((128 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have h0 : Real.sqrt 128 * Real.log 2 ≠ 0 :=
    (mul_pos (Real.sqrt_pos.mpr (by norm_num)) (Real.log_pos (by norm_num))).ne'
  rw [h, h2, Ideal.sqrt_coe, if_neg (by norm_num), Ideal.log_coe, if_neg (by norm_num), ← EReal.coe_mul, Ideal.div_coe h0, one_mul]

/-- How the two scales are related. -/
theorem scales : 1 / (Real.sqrt 128 * Real.log 2) * Real.log 2 = 1 / Real.sqrt 128 := by
  have h0 : Real.sqrt 128 ≠ 0 := (Real.sqrt_pos.mpr (by norm_num)).ne'
  have h1 : Real.log 2 ≠ 0 := (Real.log_pos (by norm_num)).ne'
  field_simp

end Cert.SoftMath

end
-- ==== Proof.FlashPre.lean ====
/- What the precondition says: every query and every key is a real number. -/
module

public import proofs.«01_k».proof.Pre_finite
public import proofs.«01_k».proof.Proof.SoftMath
public import Idealize.ShloMosaic.Lib.ReduceAll

@[expose] public section

set_option maxRecDepth 16384

noncomputable section

namespace Cert.Pre_finite

open Cert.SoftMath Idealize.ShloMosaic

variable [Facts]
open Facts

/-- An element whose absolute value compares below infinity is real. -/
theorem real_of_cmp (x : Ideal .f32) (y : Ideal .f32) (hy : y = Ideal.ofBits .f32 0x7F800000#32)
    (h : FloatOps.cmpf .olt (FloatOps.hostAbsf x) y = 1#1) : ∃ r : ℝ, x = (r : EReal) := by
  have htop : Ideal.ofBits .f32 0x7F800000#32 = ⊤ := by simp [Ideal.ofBits, Ideal.ieee]
  subst hy
  have h' : Ideal.cmp .olt (max (x : EReal) (-(x : EReal))) (Ideal.ofBits .f32 0x7F800000#32) = 1#1 := h
  rw [htop] at h'
  refine real_of_abs_lt x ?_
  by_contra hn
  unfold Ideal.cmp at h'
  simp [hn] at h'

/-- Where the precondition holds, queries and keys are arrays of reals. -/
theorem real (q : FVec Ideal S3x8192x8x2x128 .f32) (k v : FVec Ideal S3x8192x8x128 .f32) (h : fn (F := Ideal) q k v = fun _ => 1#1) :
    (∃ q' : S3x8192x8x2x128.Idx → ℝ, q = fun i => (q' i : EReal)) ∧ ∃ k' : S3x8192x8x128.Idx → ℝ, k = fun i => (k' i : EReal) := by
  haveI : Subsingleton S_.Idx := ⟨fun a b => funext fun x => x.elim0⟩
  have h0 := congrFun h (fun a => a.elim0)
  obtain ⟨h0, h1⟩ := IntOp.andi_eq_one.1 (show IntOp.andi _ _ = 1#1 from h0)
  have r0 := fun i => real_of_cmp (q i) _ rfl (Host.reduce_andi_all _ _ _ _ _ h0 i)
  have r1 := fun i => real_of_cmp (k i) _ rfl (Host.reduce_andi_all _ _ _ _ _ h1 i)
  choose q' hq using r0
  choose k' hk using r1
  exact ⟨⟨q', funext hq⟩, ⟨k', funext hk⟩⟩

end Cert.Pre_finite

end
-- ==== Proof.FlashPay.lean ====
/- What one grid point of the attention call computes from its blocks: the tiles of exponentials, their row sums and
   their products with the values, each as a function of the keys `X`, the transposed queries `Q` and the transposed
   values `W`. -/
module

public import proofs.«01_k».proof.Proof.Gen.KernelIdeal.Skeleton
public import Idealize.ShloMosaic.Lib.Pipeline.ValueKit

@[expose] public section

set_option maxRecDepth 16384

noncomputable section

namespace Cert.KernelIdeal.Flash

open Cert.KernelIdeal Cert.KernelIdeal.Gen Idealize.ShloMosaic Idealize.ShloMosaic.TcCoe Idealize.SL.Sem

/-- The exponential of key `s` against query column `j`; positions are taken modulo the sequence so that it is total. -/
def expo (X : FVec Ideal S8192x128 .bf16) (Q : FVec Ideal S128x2048 .bf16) (s : ℕ) (j : Fin 2048) : EReal :=
  FloatOps.exp2 (F := Ideal) (φ := .f32) (∑ l : Fin 128, X (ix2 (Fin.ofNat 8192 s) l) * Q (ix2 l j))

/-- 256 rows of exponentials, from key `o` on. -/
def tile (X : FVec Ideal S8192x128 .bf16) (Q : FVec Ideal S128x2048 .bf16) (o : ℕ) : FVec Ideal S256x2048 .f32 :=
  fun i => expo X Q (o + (i 0).val) (i 1)

/-- The same tile as the bf16 operand of the second product. -/
def tileB (X : FVec Ideal S8192x128 .bf16) (Q : FVec Ideal S128x2048 .bf16) (o : ℕ) : FVec Ideal S256x2048 .bf16 :=
  fun i => expo X Q (o + (i 0).val) (i 1)

/-- A tile's partial row sums: every eighth row. -/
def rows (X : FVec Ideal S8192x128 .bf16) (Q : FVec Ideal S128x2048 .bf16) (o : ℕ) : FVec Ideal S8x2048 .f32 :=
  fun i => ∑ x : Fin 32, expo X Q (o + (x.val * 8 + (i 0).val)) (i 1)

/-- 1024 keys' contribution to the weighted sum of the values. -/
def grp (X : FVec Ideal S8192x128 .bf16) (Q : FVec Ideal S128x2048 .bf16) (W : FVec Ideal S8x128x1024 .bf16) (g o : ℕ) :
    FVec Ideal S128x2048 .f32 :=
  fun i => ∑ x : Fin 1024, W (ix3 (Fin.ofNat 8 g) (i 0) x) * expo X Q (o + x.val) (i 1)

theorem tile_eq (X : FVec Ideal S8192x128 .bf16) (Q : FVec Ideal S128x2048 .bf16) (o : ℕ)
    (h : ∀ a, (![o, 0] : Fin 2 → ℕ) a + S256x128.size a ≤ S8192x128.size a) :
    exp2 (matmul (φ₁ := .bf16) dot_S256x128_S128x2048_S256x2048_1_0_0_1_n_n none
      (shapeCast (α := Ideal .bf16) S256x128 (View.ld (Val := Elt Ideal) (e' := .bf16) X (Rect.unit ![o, 0] ![256, 128] h)) shapeCasts_S256x128_S256x128) Q
      (constant S256x2048 .f32 0x00000000#32)) = tile X Q o := by
  funext i
  pointwise [tile, expo]
  have h1 : o + 256 ≤ 8192 := h 0
  have h2 := (i 0).isLt
  have h3 : (⟨o + (i 0).val, by show _ < 8192; have : (i 0).val < 256 := h2; omega⟩ : Fin 8192) = Fin.ofNat 8192 (o + (i 0).val) :=
    Fin.ext (Nat.mod_eq_of_lt (by have : (i 0).val < 256 := h2; omega)).symm
  exact congrArg _ (Finset.sum_congr rfl fun x _ => by rw [← h3])

theorem trunc_tile (X : FVec Ideal S8192x128 .bf16) (Q : FVec Ideal S128x2048 .bf16) (o : ℕ) (h) :
    truncf .bf16 (tile X Q o) h = tileB X Q o := rfl

theorem rows_eq (X : FVec Ideal S8192x128 .bf16) (Q : FVec Ideal S128x2048 .bf16) (o : ℕ) (acc : BitVec (FTy.bits .f32)) (h1) (h2) :
    multiReduction .add [0] S8x2048 (shapeCast S32x8x2048 (tile X Q o) shapeCasts_S256x2048_S32x8x2048) acc
      reduces_S32x8x2048_S8x2048 h1 h2 = rows X Q o := by
  funext i
  pointwise [rows, tile]

theorem stack_at (p0 p1 p2 p3 : FVec Ideal S256x2048 .bf16) (i : S1024x2048.Idx) :
    concatenate S1024x2048 0 [⟨S256x2048, p0⟩, ⟨S256x2048, p1⟩, ⟨S256x2048, p2⟩, ⟨S256x2048, p3⟩] concatenates_S256x2048_S256x2048_S256x2048_S256x2048_S1024x2048_d0 i =
      if h : (i 0).val < 256 then p0 (ix2 ⟨(i 0).val, h⟩ (i 1))
      else if h' : (i 0).val - 256 < 256 then p1 (ix2 ⟨(i 0).val - 256, h'⟩ (i 1))
      else if h'' : (i 0).val - 256 - 256 < 256 then p2 (ix2 ⟨(i 0).val - 256 - 256, h''⟩ (i 1))
      else p3 (ix2 ⟨(i 0).val - 256 - 256 - 256, by have : (i 0).val < 1024 := (i 0).isLt; omega⟩ (i 1)) := by
  pointwise

/-- Four tiles stacked are 1024 rows of exponentials. -/
theorem stacked (X : FVec Ideal S8192x128 .bf16) (Q : FVec Ideal S128x2048 .bf16) (o : ℕ) (i : S1024x2048.Idx) :
    concatenate S1024x2048 0 [⟨S256x2048, tileB X Q o⟩, ⟨S256x2048, tileB X Q (o + 256)⟩, ⟨S256x2048, tileB X Q (o + 512)⟩, ⟨S256x2048, tileB X Q (o + 768)⟩] concatenates_S256x2048_S256x2048_S256x2048_S256x2048_S1024x2048_d0 i =
      expo X Q (o + (i 0).val) (i 1) := by
  rw [stack_at]
  have key : ∀ (p : ℕ) (r : Fin 256), p + r.val = o + (i 0).val → tileB X Q p (ix2 r (i 1)) = expo X Q (o + (i 0).val) (i 1) := by
    intro p r h
    rw [← h]
    rfl
  split_ifs with a b d
  · exact key _ _ rfl
  · exact key _ _ (by show o + 256 + ((i 0).val - 256) = _; omega)
  · exact key _ _ (by show o + 512 + ((i 0).val - 256 - 256) = _; omega)
  · exact key _ _ (by show o + 768 + ((i 0).val - 256 - 256 - 256) = _; omega)

theorem slice_at (W : FVec Ideal S8x128x1024 .bf16) (g : ℕ)
    (h : ∀ a, (![g, 0, 0] : Fin 3 → ℕ) a + S1x128x1024.size a ≤ S8x128x1024.size a) (hg : g < 8) (d : Fin 128) (x : Fin 1024) :
    shapeCast (α := Ideal .bf16) S128x1024 (View.ld (Val := Elt Ideal) (e' := .bf16) W (Rect.unit ![g, 0, 0] ![1, 128, 1024] h)) shapeCasts_S1x128x1024_S128x1024 (ix2 d x) =
      W (ix3 ⟨g, hg⟩ d x) := by
  refine (shapeCast_dropUnit_apply ![128, 1024] _ shapeCasts_S1x128x1024_S128x1024 (ix2 d x)).trans ?_
  refine congrArg W (funext fun a => ?_)
  match a with
  | 0 => exact Fin.ext (show g + 1 * 0 = g by omega)
  | 1 => exact Fin.ext (show 0 + 1 * d.val = d.val by omega)
  | 2 => exact Fin.ext (show 0 + 1 * x.val = x.val by omega)

theorem product_at (A : FVec Ideal S128x1024 .bf16) (P : FVec Ideal S1024x2048 .bf16) (i : S128x2048.Idx) :
    matmul (φ₁ := .bf16) dot_S128x1024_S1024x2048_S128x2048_1_0_0_1_n_n none
      A P (constant S128x2048 .f32 0x00000000#32) i = ∑ x : Fin 1024, A (ix2 (i 0) x) * P (ix2 x (i 1)) := by
  pointwise

theorem grp_at (W : FVec Ideal S8x128x1024 .bf16) (P : FVec Ideal S1024x2048 .bf16) (g : ℕ)
    (h : ∀ a, (![g, 0, 0] : Fin 3 → ℕ) a + S1x128x1024.size a ≤ S8x128x1024.size a) (hg : g < 8) (i : S128x2048.Idx) :
    matmul (φ₁ := .bf16) dot_S128x1024_S1024x2048_S128x2048_1_0_0_1_n_n none
      (shapeCast (α := Ideal .bf16) S128x1024 (View.ld (Val := Elt Ideal) (e' := .bf16) W (Rect.unit ![g, 0, 0] ![1, 128, 1024] h)) shapeCasts_S1x128x1024_S128x1024)
      P (constant S128x2048 .f32 0x00000000#32) i = ∑ x : Fin 1024, W (ix3 ⟨g, hg⟩ (i 0) x) * P (ix2 x (i 1)) := by
  rw [product_at]
  exact Finset.sum_congr rfl fun x _ => by rw [slice_at W g h hg (i 0) x]

theorem grp_of (X : FVec Ideal S8192x128 .bf16) (Q : FVec Ideal S128x2048 .bf16) (W : FVec Ideal S8x128x1024 .bf16)
    (p0 p1 p2 p3 : FVec Ideal S256x2048 .bf16) (o g : ℕ)
    (h : ∀ a, (![g, 0, 0] : Fin 3 → ℕ) a + S1x128x1024.size a ≤ S8x128x1024.size a)
    (h0 : p0 = tileB X Q o) (h1 : p1 = tileB X Q (o + 256)) (h2 : p2 = tileB X Q (o + 512)) (h3 : p3 = tileB X Q (o + 768)) :
    matmul (φ₁ := .bf16) dot_S128x1024_S1024x2048_S128x2048_1_0_0_1_n_n none
      (shapeCast (α := Ideal .bf16) S128x1024 (View.ld (Val := Elt Ideal) (e' := .bf16) W (Rect.unit ![g, 0, 0] ![1, 128, 1024] h)) shapeCasts_S1x128x1024_S128x1024)
      (concatenate S1024x2048 0 [⟨S256x2048, p0⟩, ⟨S256x2048, p1⟩, ⟨S256x2048, p2⟩, ⟨S256x2048, p3⟩] concatenates_S256x2048_S256x2048_S256x2048_S256x2048_S1024x2048_d0)
      (constant S128x2048 .f32 0x00000000#32) = grp X Q W g o := by
  have hg : g < 8 := by have : g + 1 ≤ 8 := h 0; omega
  have hg' : (⟨g, hg⟩ : Fin 8) = Fin.ofNat 8 g := Fin.ext (Nat.mod_eq_of_lt hg).symm
  subst h0 h1 h2 h3
  funext i
  rw [grp_at W _ g h hg i, hg']
  exact Finset.sum_congr rfl fun x _ => congrArg _ (stacked X Q o (ix2 x (i 1)))

/-- The product of one group of values with its four tiles, as the kernel writes it. -/
theorem grp_eq (X : FVec Ideal S8192x128 .bf16) (Q : FVec Ideal S128x2048 .bf16) (W : FVec Ideal S8x128x1024 .bf16)
    (o0 o1 o2 o3 g : ℕ) (i0) (i1) (i2) (i3)
    (h : ∀ a, (![g, 0, 0] : Fin 3 → ℕ) a + S1x128x1024.size a ≤ S8x128x1024.size a)
    (h1 : o1 = o0 + 256) (h2 : o2 = o0 + 512) (h3 : o3 = o0 + 768) :
    matmul (φ₁ := .bf16) dot_S128x1024_S1024x2048_S128x2048_1_0_0_1_n_n none
      (shapeCast (α := Ideal .bf16) S128x1024 (View.ld (Val := Elt Ideal) (e' := .bf16) W (Rect.unit ![g, 0, 0] ![1, 128, 1024] h)) shapeCasts_S1x128x1024_S128x1024)
      (concatenate S1024x2048 0 [
        ⟨S256x2048, truncf .bf16 (exp2 (matmul (φ₁ := .bf16) dot_S256x128_S128x2048_S256x2048_1_0_0_1_n_n none (shapeCast (α := Ideal .bf16) S256x128 (View.ld (Val := Elt Ideal) (e' := .bf16) X (Rect.unit ![o0, 0] ![256, 128] i0)) shapeCasts_S256x128_S256x128) Q (constant S256x2048 .f32 0x00000000#32))) bitsLt_bf16_f32⟩,
        ⟨S256x2048, truncf .bf16 (exp2 (matmul (φ₁ := .bf16) dot_S256x128_S128x2048_S256x2048_1_0_0_1_n_n none (shapeCast (α := Ideal .bf16) S256x128 (View.ld (Val := Elt Ideal) (e' := .bf16) X (Rect.unit ![o1, 0] ![256, 128] i1)) shapeCasts_S256x128_S256x128) Q (constant S256x2048 .f32 0x00000000#32))) bitsLt_bf16_f32⟩,
        ⟨S256x2048, truncf .bf16 (exp2 (matmul (φ₁ := .bf16) dot_S256x128_S128x2048_S256x2048_1_0_0_1_n_n none (shapeCast (α := Ideal .bf16) S256x128 (View.ld (Val := Elt Ideal) (e' := .bf16) X (Rect.unit ![o2, 0] ![256, 128] i2)) shapeCasts_S256x128_S256x128) Q (constant S256x2048 .f32 0x00000000#32))) bitsLt_bf16_f32⟩,
        ⟨S256x2048, truncf .bf16 (exp2 (matmul (φ₁ := .bf16) dot_S256x128_S128x2048_S256x2048_1_0_0_1_n_n none (shapeCast (α := Ideal .bf16) S256x128 (View.ld (Val := Elt Ideal) (e' := .bf16) X (Rect.unit ![o3, 0] ![256, 128] i3)) shapeCasts_S256x128_S256x128) Q (constant S256x2048 .f32 0x00000000#32))) bitsLt_bf16_f32⟩] concatenates_S256x2048_S256x2048_S256x2048_S256x2048_S1024x2048_d0)
      (constant S128x2048 .f32 0x00000000#32) = grp X Q W g o0 := by
  subst h1 h2 h3
  exact grp_of X Q W _ _ _ _ o0 g h (by rw [tile_eq, trunc_tile]) (by rw [tile_eq, trunc_tile]) (by rw [tile_eq, trunc_tile])
    (by rw [tile_eq, trunc_tile])

/-- The 1024-row blocks of the two heads' queries side by side, transposed. -/
theorem queries_at (a b : FVec Ideal S1024x128 .bf16) (i : S128x2048.Idx) : k0_pay5 (F := Ideal) a b i =
    if h : (i 1).val < 1024 then a (ix2 ⟨(i 1).val, h⟩ (i 0))
    else b (ix2 ⟨(i 1).val - 1024, by have : (i 1).val < 2048 := (i 1).isLt; omega⟩ (i 0)) := by
  pointwise [k0_pay5]

/-- One head's half of the quotient, transposed back. -/
theorem half_at (A : FVec Ideal S128x2048 .f32) (L : FVec Ideal S8x2048 .f32) (acc : BitVec (FTy.bits .f32)) (h1) (h2)
    (r : Fin 1024) (d : Fin 128) :
    truncf .bf16 (transpose S1024x128 [1, 0] (extractStridedSlice S128x1024 ![0, 0]
      (divf A (broadcastTo S128x2048 (shapeCast S1x2048 (multiReduction .add [0] S2048 L acc reduces_S8x2048_S2048 h1 h2) shapeCasts_S2048_S1x2048)
        broadcasts_S1x2048_S128x2048)) slices_S128x2048_o0_0_S128x1024) transposes_S128x1024_p1_0_S1024x128) bitsLt_bf16_f32 (ix2 r d) =
    Ideal.div (A (ix2 d ⟨r.val, by omega⟩)) (∑ u : Fin 8, L (ix2 u ⟨r.val, by omega⟩)) := by
  pointwise

theorem half_at' (A : FVec Ideal S128x2048 .f32) (L : FVec Ideal S8x2048 .f32) (acc : BitVec (FTy.bits .f32)) (h1) (h2)
    (r : Fin 1024) (d : Fin 128) :
    truncf .bf16 (transpose S1024x128 [1, 0] (extractStridedSlice S128x1024 ![0, 1024]
      (divf A (broadcastTo S128x2048 (shapeCast S1x2048 (multiReduction .add [0] S2048 L acc reduces_S8x2048_S2048 h1 h2) shapeCasts_S2048_S1x2048)
        broadcasts_S1x2048_S128x2048)) slices_S128x2048_o0_1024_S128x1024) transposes_S128x1024_p1_0_S1024x128) bitsLt_bf16_f32 (ix2 r d) =
    Ideal.div (A (ix2 d ⟨1024 + r.val, by omega⟩)) (∑ u : Fin 8, L (ix2 u ⟨1024 + r.val, by omega⟩)) := by
  pointwise

/-- The eight groups together: the exponentials' weighted sum of all the values. -/
theorem accs_at (X V : FVec Ideal S8192x128 .bf16) (Q : FVec Ideal S128x2048 .bf16) (W : FVec Ideal S8x128x1024 .bf16)
    (hW : ∀ (g : Fin 8) (d : Fin 128) (x : Fin 1024), W (ix3 g d x) = V (ix2 ⟨g.val * 1024 + x.val, by omega⟩ d)) (d : Fin 128) (j : Fin 2048) :
    (addf (addf (addf (addf (addf (addf (addf (addf (broadcast S128x2048 (FloatOps.ofBits FTy.f32 0x00000000#32)) (grp X Q W 0 0)) (grp X Q W 1 1024)) (grp X Q W 2 2048)) (grp X Q W 3 3072)) (grp X Q W 4 4096)) (grp X Q W 5 5120)) (grp X Q W 6 6144)) (grp X Q W 7 7168) : FVec Ideal S128x2048 .f32) (ix2 d j) =
      ∑ s : Fin 8192, V (ix2 s d) * expo X Q s.val j := by
  have h : ∀ (g : Fin 8) (o : ℕ), o = g.val * 1024 → grp X Q W g.val o (ix2 d j) =
      ∑ x : Fin 1024, (fun s : Fin 8192 => V (ix2 s d) * expo X Q s.val j) ⟨g.val * 1024 + x.val, by omega⟩ := by
    intro g o ho
    refine Finset.sum_congr rfl fun x _ => ?_
    subst ho
    show W (ix3 (Fin.ofNat 8 g.val) d x) * _ = _
    rw [show Fin.ofNat 8 g.val = g from Fin.ext (Nat.mod_eq_of_lt g.isLt), hW]
    rfl
  have h0 := h 0 0 rfl
  have h1 := h 1 1024 rfl
  have h2 := h 2 2048 rfl
  have h3 := h 3 3072 rfl
  have h4 := h 4 4096 rfl
  have h5 := h 5 5120 rfl
  have h6 := h 6 6144 rfl
  have h7 := h 7 7168 rfl
  pointwise
  refine Eq.trans ?_ (Fin.sum_mul_add_fin 8 1024 fun s : Fin 8192 => V (ix2 s d) * expo X Q s.val j)
  rw [Fin.sum_univ_eight]
  exact congrArg₂ (· + ·) (congrArg₂ (· + ·) (congrArg₂ (· + ·) (congrArg₂ (· + ·) (congrArg₂ (· + ·) (congrArg₂ (· + ·)
    (congrArg₂ (· + ·) h0 h1) h2) h3) h4) h5) h6) h7

/-- The row sums together: the exponentials' sum over all the keys. -/
theorem lsum_at (X : FVec Ideal S8192x128 .bf16) (Q : FVec Ideal S128x2048 .bf16) (j : Fin 2048) :
    (∑ u : Fin 8, (addf (addf (addf (addf (addf (addf (addf (addf (addf (addf (addf (addf (addf (addf (addf (addf (addf (addf (addf (addf (addf (addf (addf (addf (addf (addf (addf (addf (addf (addf (addf (addf (broadcast S8x2048 (FloatOps.ofBits FTy.f32 0x00000000#32)) (rows X Q 0)) (rows X Q 256)) (rows X Q 512)) (rows X Q 768)) (rows X Q 1024)) (rows X Q 1280)) (rows X Q 1536)) (rows X Q 1792)) (rows X Q 2048)) (rows X Q 2304)) (rows X Q 2560)) (rows X Q 2816)) (rows X Q 3072)) (rows X Q 3328)) (rows X Q 3584)) (rows X Q 3840)) (rows X Q 4096)) (rows X Q 4352)) (rows X Q 4608)) (rows X Q 4864)) (rows X Q 5120)) (rows X Q 5376)) (rows X Q 5632)) (rows X Q 5888)) (rows X Q 6144)) (rows X Q 6400)) (rows X Q 6656)) (rows X Q 6912)) (rows X Q 7168)) (rows X Q 7424)) (rows X Q 7680)) (rows X Q 7936) : FVec Ideal S8x2048 .f32) (ix2 u j)) =
      ∑ s : Fin 8192, expo X Q s.val j := by
  pointwise
  have h : ∀ f : ℕ → EReal, f 0 + f 256 + f 512 + f 768 + f 1024 + f 1280 + f 1536 + f 1792 + f 2048 + f 2304 + f 2560 + f 2816 + f 3072 + f 3328 + f 3584 + f 3840 + f 4096 + f 4352 + f 4608 + f 4864 + f 5120 + f 5376 + f 5632 + f 5888 + f 6144 + f 6400 + f 6656 + f 6912 + f 7168 + f 7424 + f 7680 + f 7936 = ∑ b ∈ Finset.range 32, f (b * 256) := by
    intro f
    simp only [Finset.sum_range_succ, Finset.sum_range_zero, zero_add, Nat.reduceMul]
  refine (Finset.sum_congr rfl fun u _ => h fun o => rows X Q o (ix2 u j)).trans ?_
  rw [Finset.sum_comm, Finset.sum_range]
  refine Eq.trans (Finset.sum_congr rfl fun b _ => ?_) (Fin.sum_mul_add_fin 32 256 fun s : Fin 8192 => expo X Q s.val j)
  rw [← Fin.sum_mul_add_fin 32 8 (fun y : Fin 256 => expo X Q (b.val * 256 + y.val) j), Finset.sum_comm]
  rfl

/-- Two halves of 128 columns side by side. -/
theorem halves_at (w w' : FVec Ideal S1024x128 .bf16) (r : Fin 1024) (e : Fin 256) (R : EReal)
    (h : ∀ d : Fin 128, e.val = d.val → w (ix2 r d) = R) (h' : ∀ d : Fin 128, e.val = 128 + d.val → w' (ix2 r d) = R) :
    View.canon (Val := Elt Ideal) (s := S1024x256) (e := .bf16) [⟨Rect.unit ![0, 128] ![1024, 128] inb_S1024x256_S1024x128_0_128, w'⟩, ⟨Rect.unit ![0, 0] ![1024, 128] inb_S1024x256_S1024x128_0_0, w⟩] (ix2 r e) = R := by
  canon_tiles x hx
  · rw [show x = ix2 r ⟨(x 1).val, x1_lt⟩ from funext fun a => match a with | 0 => Fin.ext hx0.symm | 1 => rfl]
    exact h' _ hx1
  · rw [show x = ix2 r ⟨(x 1).val, x1_lt⟩ from funext fun a => match a with | 0 => Fin.ext hx0.symm | 1 => rfl]
    exact h _ hx1

end Cert.KernelIdeal.Flash

end
-- ==== Proof.FlashScratch.lean ====
/- What the attention call's loop leaves in the carried buffer: the values, transposed block by block. -/
module

public import proofs.«01_k».proof.Proof.Gen.KernelIdeal.Value
public import Idealize.ShloMosaic.Lib.Pipeline.ValueKit
public import Idealize.ShloMosaic.Lib.Pipeline.CanonAppend

@[expose] public section

set_option maxRecDepth 16384

noncomputable section

namespace Cert.KernelIdeal.Flash

open Cert.KernelIdeal Cert.KernelIdeal.Gen Idealize.ShloMosaic Idealize.ShloMosaic.TcCoe Idealize.SL.Sem

/-- The values in eight blocks of 1024 rows, each transposed. -/
def blocks (V : FVec Ideal S8192x128 .bf16) : FVec Ideal S8x128x1024 .bf16 :=
  fun i => V (ix2 ⟨(i 0).val * 1024 + (i 2).val, by have : (i 0).val < 8 := (i 0).isLt; have : (i 2).val < 1024 := (i 2).isLt; omega⟩ (i 1))

/-- One block transposed, under a leading unit axis. -/
theorem turned_at (w : FVec Ideal S1024x128 .bf16) (x : S1x128x1024.Idx) : k0_pay4 (F := Ideal) w x = w (ix2 (x 2) (x 1)) := by
  pointwise [k0_pay4]

variable (𝒱 : Variants) (c : Dev nD) (bd : Option 𝒱.V) (i : grid0.Coords)
  (arg3 : Memref sig Kind.tc Space.vmem S1024x256 EltTy.bf16) (harg3 : arg3.IsWhole)
  (arg4 : Memref sig Kind.tc Space.vmem S8192x128 EltTy.bf16) (harg4 : arg4.IsWhole)
  (arg5 : Memref sig Kind.tc Space.vmem S8192x128 EltTy.bf16) (harg5 : arg5.IsWhole)
  (arg6 : Memref sig Kind.tc Space.vmem S1024x256 EltTy.bf16) (harg6 : arg6.IsWhole)
  (arg7 : Memref sig Kind.tc Space.vmem S8x128x1024 EltTy.bf16) (harg7 : arg7.IsWhole) (k0_h1 : k0_cond1 i = 1#1)
  (X : BufTy.Contents (Elt Ideal) arg5.view.ty)

/-- The piece one trip stores. -/
def turn (k : Fin k0_t1_loop.trips) : View.Piece (Elt Ideal) S8x128x1024 .bf16 :=
  ⟨Rect.unit (k0_off2 k) ![1, 128, 1024] (k0_off2_inb i k k0_h1),
    k0_pay4 (View.readAt (Elt Ideal) arg5.view (Rect.unit (k0_off1 k) ![1024, 128] (k0_off1_inb i k k0_h1)).toLoadRect X)⟩

theorem trip_eq (k : Fin k0_t1_loop.trips) :
    tripL_k0_t1 𝒱 c bd i arg3 harg3 arg4 harg4 arg5 harg5 arg6 harg6 arg7 harg7 k0_h1 X k = [turn i arg5 k0_h1 X k] := by
  unfold tripL_k0_t1 trip_k0_t1
  rfl

theorem trips_eq : k0_t1_loop.trips = 8 := by decide

theorem pieces_of (n : ℕ) (hn : n ≤ k0_t1_loop.trips) (p : View.Piece (Elt Ideal) S8x128x1024 .bf16)
    (hp : p ∈ pb_k0_t1 𝒱 c bd i arg3 harg3 arg4 harg4 arg5 harg5 arg6 harg6 arg7 harg7 k0_h1 X n) :
    ∃ k, p = turn i arg5 k0_h1 X k := by
  induction n with
  | zero =>
    unfold pb_k0_t1 at hp
    simp at hp
  | succ n ih =>
    have h := pb_k0_t1_succ 𝒱 c bd i arg3 harg3 arg4 harg4 arg5 harg5 arg6 harg6 arg7 harg7 k0_h1 X ⟨n, hn⟩
    rw [trip_eq] at h
    rw [h] at hp
    rcases List.mem_append.mp hp with hp | hp
    · exact ⟨_, List.mem_singleton.mp hp⟩
    · exact ih (by omega) hp

theorem piece_mem (n : ℕ) (hn : n ≤ k0_t1_loop.trips) (k : Fin k0_t1_loop.trips) (hk : k.val < n) :
    turn i arg5 k0_h1 X k ∈ pb_k0_t1 𝒱 c bd i arg3 harg3 arg4 harg4 arg5 harg5 arg6 harg6 arg7 harg7 k0_h1 X n := by
  induction n with
  | zero => omega
  | succ n ih =>
    have h := pb_k0_t1_succ 𝒱 c bd i arg3 harg3 arg4 harg4 arg5 harg5 arg6 harg6 arg7 harg7 k0_h1 X ⟨n, hn⟩
    rw [trip_eq] at h
    rw [h]
    by_cases hkn : k.val = n
    · exact List.mem_append.mpr (.inl (List.mem_singleton.mpr (congrArg _ (Fin.ext hkn))))
    · exact List.mem_append.mpr (.inr (ih (by omega) (by omega)))

theorem turn_at (k : Fin k0_t1_loop.trips) (V : FVec Ideal S8192x128 .bf16) (hV : View.read (Elt Ideal) arg5.view X = V)
    (x : (turn i arg5 k0_h1 X k).1.shape.Idx) :
    (turn i arg5 k0_h1 X k).2 x = blocks V ((turn i arg5 k0_h1 X k).1.emb x) := by
  refine (turned_at _ x).trans ?_
  subst hV
  refine congrArg (View.read (Elt Ideal) arg5.view X) (funext fun a => Fin.ext ?_)
  match a with
  | 0 =>
    show (k0_off1 k) 0 + 1 * (x 2).val = ((k0_off2 k) 0 + 1 * (x 0).val) * 1024 + ((k0_off2 k) 2 + 1 * (x 2).val)
    rw [k0_off1_eq, k0_off2_eq]
    have : (x 0).val < 1 := (x 0).isLt
    show 1024 * k.val + 1 * (x 2).val = (k.val + 1 * (x 0).val) * 1024 + (0 + 1 * (x 2).val)
    omega
  | 1 =>
    show (k0_off1 k) 1 + 1 * (x 1).val = (k0_off2 k) 1 + 1 * (x 1).val
    rw [k0_off1_eq, k0_off2_eq]
    rfl

theorem covered (y : S8x128x1024.Idx) :
    ∃ p ∈ pb_k0_t1 𝒱 c bd i arg3 harg3 arg4 harg4 arg5 harg5 arg6 harg6 arg7 harg7 k0_h1 X k0_t1_loop.trips, y ∈ p.1.set := by
  have hy : (y 0).val < k0_t1_loop.trips := lt_of_lt_of_eq (y 0).isLt trips_eq.symm
  refine ⟨_, piece_mem 𝒱 c bd i arg3 harg3 arg4 harg4 arg5 harg5 arg6 harg6 arg7 harg7 k0_h1 X _ le_rfl ⟨(y 0).val, hy⟩ hy, ?_⟩
  refine (Rect.mem_set_unit (inb := k0_off2_inb i _ k0_h1)).mpr fun a => ?_
  rw [k0_off2_eq]
  match a with
  | 0 => exact ⟨le_rfl, Nat.lt_succ_self _⟩
  | 1 => exact ⟨Nat.zero_le _, lt_of_lt_of_eq (y 1).isLt (Nat.zero_add 128).symm⟩
  | 2 => exact ⟨Nat.zero_le _, lt_of_lt_of_eq (y 2).isLt (Nat.zero_add 1024).symm⟩

/-- After the loop the carried buffer holds the transposed blocks. -/
theorem filled (V : FVec Ideal S8192x128 .bf16) (hV : View.read (Elt Ideal) arg5.view X = V) :
    View.canon (pb_k0_t1 𝒱 c bd i arg3 harg3 arg4 harg4 arg5 harg5 arg6 harg6 arg7 harg7 k0_h1 X k0_t1_loop.trips) = blocks V := by
  funext y
  have h := View.canon_append_of_pieces (Val := Elt Ideal) (blocks V) [] _ (fun p hp x => by
    obtain ⟨k, rfl⟩ := pieces_of 𝒱 c bd i arg3 harg3 arg4 harg4 arg5 harg5 arg6 harg6 arg7 harg7 k0_h1 X _ le_rfl p hp
    exact turn_at i arg5 k0_h1 X k V hV x) y (covered 𝒱 c bd i arg3 harg3 arg4 harg4 arg5 harg5 arg6 harg6 arg7 harg7 k0_h1 X y)
  rwa [List.append_nil] at h

end Cert.KernelIdeal.Flash

end
-- ==== Proof.FlashPoint.lean ====
/- One grid point of the attention call: its output block is the exponentials' weighted mean of the values, and the carried
   buffer holds the transposed values. -/
module

public import proofs.«01_k».proof.Proof.FlashPay
public import proofs.«01_k».proof.Proof.FlashScratch
public import Idealize.ShloMosaic.Lib.Claim

@[expose] public section

set_option maxRecDepth 16384

noncomputable section

namespace Cert.KernelIdeal.Flash

open Cert.KernelIdeal Cert.KernelIdeal.Gen Idealize.ShloMosaic Idealize.ShloMosaic.TcCoe Idealize.SL.Sem

variable (m : (ℓ : Loc nD τ sig) → Buf (Elt Ideal) ℓ)

/-- The query column of row `r` of head column `e` of a block. -/
def column (r : Fin 1024) (e : Fin 256) : Fin 2048 := ⟨e.val / 128 * 1024 + r.val, by omega⟩

/-- The weighted mean of the values `V` with weights the exponentials of the keys `X` against one query column. -/
def mean (X V : FVec Ideal S8192x128 .bf16) (Q : FVec Ideal S128x2048 .bf16) (d : Fin 128) (j : Fin 2048) : EReal :=
  Ideal.div (∑ s : Fin 8192, V (ix2 s d) * expo X Q s.val j) (∑ s : Fin 8192, expo X Q s.val j)

theorem blocks_at (V : FVec Ideal S8192x128 .bf16) (g : Fin 8) (d : Fin 128) (x : Fin 1024) :
    blocks V (ix3 g d x) = V (ix2 ⟨g.val * 1024 + x.val, by omega⟩ d) := rfl

/-- A point that reads the carried buffer. -/
theorem out_B (c : Dev nD) (t : Fin cfg0.N) (h : ¬ t.val % 8 = 0) (V : FVec Ideal S8192x128 .bf16)
    (hW : (outsAt0 m c (t.val - 1) (by omega)).2 = blocks V) (r : Fin 1024) (e : Fin 256) :
    (outsAt0 m c t.val t.isLt).1 (ix2 r e) = mean (iblk m c 1 t) V
      (k0_pay5 (View.ld (iblk m c 0 t) (Rect.unit ![0, 0] ![1024, 128] inb_S1024x256_S1024x128_0_0))
        (View.ld (iblk m c 0 t) (Rect.unit ![0, 128] ![1024, 128] inb_S1024x256_S1024x128_0_128)))
      ⟨e.val % 128, by omega⟩ (column r e) := by
  rw [outsAt0_B m c t h]
  frame_out
  simp only [(Memref.isWhole_whole _).read_unread, hW]
  generalize iblk m c 1 t = X
  generalize View.ld (iblk m c 0 t) (Rect.unit ![0, 0] ![1024, 128] inb_S1024x256_S1024x128_0_0) = qa
  generalize View.ld (iblk m c 0 t) (Rect.unit ![0, 128] ![1024, 128] inb_S1024x256_S1024x128_0_128) = qb
  simp only [k0_pay1, k0_pay2, k0_pay3, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84, k0_pay85, k0_pay86]
  generalize k0_pay5 qa qb = Q
  simp only [grp_eq _ _ _ _ _ _ _ _ _ _ _ _ _ rfl rfl rfl]
  simp only [tile_eq, rows_eq _ _ _ (0x00000000#32) (.inl rfl) rfl]
  refine halves_at _ _ r e _ (fun d hd => ?_) (fun d hd => ?_)
  · rw [show (⟨e.val % 128, by omega⟩ : Fin 128) = d from Fin.ext (by show e.val % 128 = d.val; omega),
      show column r e = ⟨r.val, by omega⟩ from Fin.ext (by show e.val / 128 * 1024 + r.val = r.val; omega)]
    exact (half_at _ _ _ _ _ r d).trans (congrArg₂ Ideal.div (accs_at X V Q (blocks V) (blocks_at V) d _) (lsum_at X Q _))
  · rw [show (⟨e.val % 128, by omega⟩ : Fin 128) = d from Fin.ext (by show e.val % 128 = d.val; omega),
      show column r e = ⟨1024 + r.val, by omega⟩ from Fin.ext (by show e.val / 128 * 1024 + r.val = 1024 + r.val; omega)]
    exact (half_at' _ _ _ _ _ r d).trans (congrArg₂ Ideal.div (accs_at X V Q (blocks V) (blocks_at V) d _) (lsum_at X Q _))

/-- The first point of a row of eight, which fills the carried buffer. -/
theorem carried_A (c : Dev nD) (t : Fin cfg0.N) (h : t.val % 8 = 0) :
    (outsAt0 m c t.val t.isLt).2 = blocks (iblk m c 2 t) := by
  rw [outsAt0_A m c t h]
  frame_out
  exact filled _ _ _ _ _ _ _ _ _ _ _ _ _ _ _ _ (iblk m c 2 t) (by rw [(hstage0_2 _).read_unread])

theorem read_back (L : List (View.Piece (Elt Ideal) S8x128x1024 .bf16)) (W : FVec Ideal S8x128x1024 .bf16) (h : View.canon L = W)
    (r : Rect S8x128x1024) : (View.whole cc0_scratch0).readCov L r.toLoadRect = View.ld W r := by
  rw [View.readCov_eq_canon', h]
  rfl

/-- It reads back what it filled. -/
theorem out_A (c : Dev nD) (t : Fin cfg0.N) (h : t.val % 8 = 0) (r : Fin 1024) (e : Fin 256) :
    (outsAt0 m c t.val t.isLt).1 (ix2 r e) = mean (iblk m c 1 t) (iblk m c 2 t)
      (k0_pay5 (View.ld (iblk m c 0 t) (Rect.unit ![0, 0] ![1024, 128] inb_S1024x256_S1024x128_0_0))
        (View.ld (iblk m c 0 t) (Rect.unit ![0, 128] ![1024, 128] inb_S1024x256_S1024x128_0_128)))
      ⟨e.val % 128, by omega⟩ (column r e) := by
  rw [outsAt0_A m c t h]
  frame_out
  generalize hL : pb_k0_t1 (F := Ideal) _ _ _ _ _ _ _ _ _ _ _ _ _ _ _ _ _ = L
  have hB : View.canon L = blocks (iblk m c 2 t) := by
    subst hL
    exact filled _ _ _ _ _ _ _ _ _ _ _ _ _ _ _ _ (iblk m c 2 t) (by rw [(hstage0_2 _).read_unread])
  simp only [read_back L _ hB]
  generalize iblk m c 2 t = V
  generalize iblk m c 1 t = X
  generalize View.ld (iblk m c 0 t) (Rect.unit ![0, 0] ![1024, 128] inb_S1024x256_S1024x128_0_0) = qa
  generalize View.ld (iblk m c 0 t) (Rect.unit ![0, 128] ![1024, 128] inb_S1024x256_S1024x128_0_128) = qb
  simp only [k0_pay1, k0_pay2, k0_pay3, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30,
    k0_pay31, k0_pay32, k0_pay33, k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53, k0_pay54, k0_pay55, k0_pay56, k0_pay57, k0_pay58,
    k0_pay59, k0_pay60, k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84, k0_pay85, k0_pay86]
  generalize k0_pay5 qa qb = Q
  simp only [grp_eq _ _ _ _ _ _ _ _ _ _ _ _ _ rfl rfl rfl]
  simp only [tile_eq, rows_eq _ _ _ (0x00000000#32) (.inl rfl) rfl]
  refine halves_at _ _ r e _ (fun d hd => ?_) (fun d hd => ?_)
  · rw [show (⟨e.val % 128, by omega⟩ : Fin 128) = d from Fin.ext (by show e.val % 128 = d.val; omega),
      show column r e = ⟨r.val, by omega⟩ from Fin.ext (by show e.val / 128 * 1024 + r.val = r.val; omega)]
    exact (half_at _ _ _ _ _ r d).trans (congrArg₂ Ideal.div (accs_at X V Q (blocks V) (blocks_at V) d _) (lsum_at X Q _))
  · rw [show (⟨e.val % 128, by omega⟩ : Fin 128) = d from Fin.ext (by show e.val % 128 = d.val; omega),
      show column r e = ⟨1024 + r.val, by omega⟩ from Fin.ext (by show e.val / 128 * 1024 + r.val = 1024 + r.val; omega)]
    exact (half_at' _ _ _ _ _ r d).trans (congrArg₂ Ideal.div (accs_at X V Q (blocks V) (blocks_at V) d _) (lsum_at X Q _))

end Cert.KernelIdeal.Flash

end
-- ==== Proof.FlashGrid.lean ====
/- The attention call's grid: which blocks a point works on, what the carried buffer holds there, and the point's output. -/
module

public import proofs.«01_k».proof.Proof.Gen.KernelIdeal.Value
public import proofs.«01_k».proof.Proof.FlashPoint

@[expose] public section

set_option maxRecDepth 16384

noncomputable section

namespace Cert.KernelIdeal.Flash

open Cert.KernelIdeal Cert.KernelIdeal.Gen Idealize.ShloMosaic Idealize.ShloMosaic.TcCoe Idealize.SL.Sem

variable (m : (ℓ : Loc nD τ sig) → Buf (Elt Ideal) ℓ)

/-- Every window's block index at every grid point: the sequence, the key head and the tile of query rows, in that order. -/
theorem idx : ∀ t : Fin cfg0.N, win0_0.index t = ![t.val / 64 * 8 + t.val % 8, t.val / 8 % 8]
    ∧ win0_1.index t = ![t.val / 64, 16 + t.val / 8 % 8] ∧ win0_2.index t = ![t.val / 64, 24 + t.val / 8 % 8]
    ∧ win0_3.index t = ![t.val / 64 * 8 + t.val % 8, t.val / 8 % 8] ∧ t.val < 192 :=
  (by decide +kernel : ∀ t : Fin grid0.N, _)

/-- Within a row of eight points the values' block does not move. -/
theorem block_kept (c : Dev nD) (n : ℕ) (h : n + 1 < cfg0.N) (hn : ¬(n + 1) % 8 = 0) :
    iblk m c 2 ⟨n + 1, h⟩ = iblk m c 2 ⟨n, Nat.lt_of_succ_lt h⟩ := by
  funext y
  have := idx ⟨n + 1, h⟩
  have := idx ⟨n, Nat.lt_of_succ_lt h⟩
  blk_ext [iblk, idx ⟨n + 1, h⟩, idx ⟨n, Nat.lt_of_succ_lt h⟩]

/-- At every point the carried buffer holds the point's values, transposed block by block. -/
theorem carried (c : Dev nD) : ∀ (n : ℕ) (h : n < cfg0.N), (outsAt0 m c n h).2 = blocks (iblk m c 2 ⟨n, h⟩) := by
  intro n
  induction n with
  | zero => intro h; exact carried_A m c ⟨0, h⟩ rfl
  | succ n ih =>
    intro h
    by_cases hn : (n + 1) % 8 = 0
    · exact carried_A m c ⟨n + 1, h⟩ hn
    · rw [outsAt0_B m c ⟨n + 1, h⟩ hn]; frame_out
      rw [block_kept m c n h hn]
      exact ih _

/-- The point's block of keys. -/
abbrev kb (c : Dev nD) (t : Fin cfg0.N) : FVec Ideal S8192x128 .bf16 := iblk m c 1 t
/-- The point's block of values. -/
abbrev vb (c : Dev nD) (t : Fin cfg0.N) : FVec Ideal S8192x128 .bf16 := iblk m c 2 t
/-- The point's block of queries: both heads of the group side by side. -/
abbrev xb (c : Dev nD) (t : Fin cfg0.N) : FVec Ideal S1024x256 .bf16 := iblk m c 0 t
/-- The point's queries, one to a column. -/
abbrev qb (c : Dev nD) (t : Fin cfg0.N) : FVec Ideal S128x2048 .bf16 :=
  k0_pay5 (View.ld (iblk m c 0 t) (Rect.unit ![0, 0] ![1024, 128] inb_S1024x256_S1024x128_0_0))
    (View.ld (iblk m c 0 t) (Rect.unit ![0, 128] ![1024, 128] inb_S1024x256_S1024x128_0_128))

/-- Every point's output: the weighted means of its values, weighted by the exponentials of its keys against its queries. -/
theorem out_at (c : Dev nD) (t : Fin cfg0.N) (r : Fin 1024) (e : Fin 256) :
    (outsAt0 m c t.val t.isLt).1 (ix2 r e) = mean (kb m c t) (vb m c t) (qb m c t) ⟨e.val % 128, by omega⟩ (column r e) := by
  by_cases h : t.val % 8 = 0
  · exact out_A m c t h r e
  · refine out_B m c t h (vb m c t) ?_ r e
    obtain ⟨n, hn⟩ := t
    cases n with
    | zero => exact absurd rfl h
    | succ n =>
      show _ = blocks (iblk m c 2 ⟨n + 1, hn⟩)
      rw [block_kept m c n hn h]
      exact carried m c n _

/-- The column of row `r` and head column `e` of the turned queries is that row's half of the block. -/
theorem qb_at (c : Dev nD) (t : Fin cfg0.N) (r : Fin 1024) (e : Fin 256) (l : Fin 128) (p : Fin 256)
    (hp : p.val = e.val / 128 * 128 + l.val) : qb m c t (ix2 l (column r e)) = xb m c t (ix2 r p) := by
  refine (queries_at _ _ _).trans ?_
  have hc : ((ix2 l (column r e) : S128x2048.Idx) 1).val = e.val / 128 * 1024 + r.val := rfl
  have hr := r.isLt
  have hl := l.isLt
  split
  · next h =>
    rw [hc] at h
    show iblk m c 0 t _ = iblk m c 0 t _
    refine congrArg (iblk m c 0 t) (funext fun a => Fin.ext ?_)
    match a with
    | ⟨0, _⟩ => show 0 + 1 * (e.val / 128 * 1024 + r.val) = r.val; omega
    | ⟨1, _⟩ => show 0 + 1 * l.val = p.val; omega
  · next h =>
    rw [hc] at h
    show iblk m c 0 t _ = iblk m c 0 t _
    refine congrArg (iblk m c 0 t) (funext fun a => Fin.ext ?_)
    match a with
    | ⟨0, _⟩ => show 0 + 1 * (e.val / 128 * 1024 + r.val - 1024) = r.val; omega
    | ⟨1, _⟩ => show 128 + 1 * l.val = p.val; omega

end Cert.KernelIdeal.Flash

end
-- ==== Proof.FlashRef.lean ====
/- The reference's attention, at an index. -/
module

public import proofs.«01_k».proof.Proof.Gen.ReferenceIdeal.Read
public import proofs.«01_k».proof.Proof.SoftMath
public import Idealize.ShloMosaic.Lib.Pipeline.ValueKit
public import Idealize.ShloMosaic.Lib.Claim

@[expose] public section

set_option maxRecDepth 16384

noncomputable section

namespace Cert.ReferenceIdeal.Flash

open Cert.SoftMath Cert.ReferenceIdeal Cert.ReferenceIdeal.Gen Cert.ReferenceIdeal.Read Idealize.ShloMosaic

variable (x0 : FVec Ideal S3x8192x8x2x128 .f32) (x1 x2 : FVec Ideal S3x8192x8x128 .f32)

/-- A score: the product of a key and a query, scaled. -/
theorem score_at (b : Fin 3) (k : Fin 8) (g : Fin 2) (q s : Fin 8192) :
    val_main_v5 (F := Ideal) x0 x1 (ix5 b k g q s)
      = (∑ l : Fin 128, x1 (ix4 b s k l) * x0 (ix5 b q k g l)) * ((1 / Real.sqrt 128 : ℝ) : EReal) := by
  rw [← scale_ref]
  pointwise [val_main_v5, val_main_v4, val_main_v3, val_main_v2, val_main_v1, val_main_v0, val_main_cst, val_main_cst_0]

/-- The weight of a key before it is divided by the sum. -/
theorem exp_at (b : Fin 3) (k : Fin 8) (g : Fin 2) (q s : Fin 8192) : val_main_v12 (F := Ideal) x0 x1 (ix5 b k g q s)
    = Ideal.exp (val_main_v5 (F := Ideal) x0 x1 (ix5 b k g q s) - val_main_v8 (F := Ideal) x0 x1 (ix4 b k g q)) := by
  pointwise [val_main_v12, val_main_v11, val_main_v10, val_main_v9]

/-- The weight. -/
theorem weight_at (b : Fin 3) (k : Fin 8) (g : Fin 2) (q s : Fin 8192) : val_main_v16 (F := Ideal) x0 x1 (ix5 b k g q s)
    = Ideal.div (val_main_v12 (F := Ideal) x0 x1 (ix5 b k g q s)) (∑ s : Fin 8192, val_main_v12 (F := Ideal) x0 x1 (ix5 b k g q s)) := by
  pointwise [val_main_v16, val_main_v15, val_main_v14, val_main_v13, val_main_cst_3]

/-- The weights' sum of the values. -/
theorem sum_at (b : Fin 3) (k : Fin 8) (g : Fin 2) (q : Fin 8192) (d : Fin 128) : val_main_v18 (F := Ideal) x0 x1 x2 (ix5 b q k g d)
    = ∑ s : Fin 8192, x2 (ix4 b s k d) * val_main_v16 (F := Ideal) x0 x1 (ix5 b k g q s) := by
  pointwise [val_main_v18, val_main_v17]

/-- The result's rows are the sequences' rows one after the other, its columns the heads' one after the other. -/
theorem flat_at (i : Fin 24576) (j : Fin 2048) (b : Fin 3) (q : Fin 8192) (k : Fin 8) (g : Fin 2) (d : Fin 128)
    (hi : i.val = b.val * 8192 + q.val) (hj : j.val = k.val * 256 + g.val * 128 + d.val) :
    val_main_v20 (F := Ideal) x0 x1 x2 (ix2 i j) = val_main_v18 (F := Ideal) x0 x1 x2 (ix5 b q k g d) := by
  have := d.isLt
  have := g.isLt
  have := k.isLt
  have := q.isLt
  show val_main_v19 (F := Ideal) x0 x1 x2 (ix2 i j) = _
  rw [val_main_v19_apply]
  refine congrArg (val_main_v18 (F := Ideal) x0 x1 x2) (funext fun a => Fin.ext ?_)
  match a with
  | ⟨0, _⟩ => show (i.val * 2048 + j.val) / 16777216 = b.val; omega
  | ⟨1, _⟩ => show (i.val * 2048 + j.val) / 2048 % 8192 = q.val; omega
  | ⟨2, _⟩ => show (i.val * 2048 + j.val) / 256 % 8 = k.val; omega
  | ⟨3, _⟩ => show (i.val * 2048 + j.val) / 128 % 2 = g.val; omega
  | ⟨4, _⟩ => show (i.val * 2048 + j.val) % 128 = d.val; omega

/-- A position of the scores goes to its row's place among the maxima. -/
theorem drop_at (b : Fin 3) (k : Fin 8) (g : Fin 2) (q s : Fin 8192) :
    reducesTo_S3x8x2x8192x8192_S3x8x2x8192_d4.drop (ix5 b k g q s) = (ix4 b k g q) := by
  funext a
  match a with
  | ⟨0, _⟩ => rfl
  | ⟨1, _⟩ => rfl
  | ⟨2, _⟩ => rfl
  | ⟨3, _⟩ => rfl

/-- Where every score is real, the number subtracted from a row's scores is real. -/
theorem shift_real (hz : ∀ i, ∃ r : ℝ, val_main_v5 (F := Ideal) x0 x1 i = (r : EReal)) (b : Fin 3) (k : Fin 8) (g : Fin 2) (q : Fin 8192) :
    ∃ μ : ℝ, val_main_v8 (F := Ideal) x0 x1 (ix4 b k g q) = (μ : EReal) := by
  have hb : Ideal.ofBits .f32 0xFF800000#32 = ⊥ := by simp [Ideal.ofBits, Ideal.ieee]
  obtain ⟨μ, hμ⟩ := reduce_max_real reducesTo_S3x8x2x8192x8192_S3x8x2x8192_d4 h_S_ (val_main_v5 (F := Ideal) x0 x1) (val_main_cst_1 (F := Ideal))
    ((val_main_cst_1_apply _).trans hb) hz _ _ (drop_at b k g q 0)
  have h7 : val_main_v7 (F := Ideal) (ix4 b k g q) = (⊥ : EReal) := (val_main_v7_apply _).trans ((val_main_cst_2_apply _).trans hb)
  have h6 : val_main_v6 (F := Ideal) x0 x1 (ix4 b k g q) = (μ : EReal) := hμ
  refine ⟨μ, ?_⟩
  rw [val_main_v8_apply, h7, h6]
  exact max_eq_right bot_le

/-- The reference at real queries and keys: the mean of the values, weighted by powers of two of the products of the keys with the scaled query. -/
theorem ref_at (q : S3x8192x8x2x128.Idx → ℝ) (k : S3x8192x8x128.Idx → ℝ) (v : S3x8192x8x128.Idx → EReal) (i : Fin 24576) (j : Fin 2048) (b : Fin 3) (r : Fin 8192)
    (h : Fin 8) (g : Fin 2) (d : Fin 128) (hi : i.val = b.val * 8192 + r.val) (hj : j.val = h.val * 256 + g.val * 128 + d.val) :
    val_main_v20 (F := Ideal) (fun i => (q i : EReal)) (fun i => (k i : EReal)) v (ix2 i j)
      = Ideal.div (∑ s : Fin 8192, v (ix4 b s h d) * Ideal.exp2 (∑ l : Fin 128,
            (k (ix4 b s h l) : EReal) * ((q (ix5 b r h g l) : EReal) * ((1 / (Real.sqrt 128 * Real.log 2) : ℝ) : EReal))))
          (∑ s : Fin 8192, Ideal.exp2 (∑ l : Fin 128,
            (k (ix4 b s h l) : EReal) * ((q (ix5 b r h g l) : EReal) * ((1 / (Real.sqrt 128 * Real.log 2) : ℝ) : EReal)))) := by
  have hz : ∀ p, ∃ x : ℝ, val_main_v5 (F := Ideal) (fun i => (q i : EReal)) (fun i => (k i : EReal)) p = (x : EReal) := fun p => by
    rw [eq_ix5 p]
    refine ⟨(∑ l : Fin 128, k (ix4 (p 0) (p 4) (p 1) l) * q (ix5 (p 0) (p 3) (p 1) (p 2) l)) * (1 / Real.sqrt 128),
      (score_at _ _ _ _ _ _ _).trans ?_⟩
    rw [EReal.coe_mul, coe_sum]
    simp only [EReal.coe_mul]
  obtain ⟨μ, hμ⟩ := shift_real _ _ hz b h g r
  rw [flat_at _ _ _ i j b r h g d hi hj, sum_at]
  simp only [weight_at, exp_at, score_at, hμ]
  exact soft_eq (fun s l => k (ix4 b s h l)) (fun l => q (ix5 b r h g l)) (fun s => v (ix4 b s h d)) _ _ μ scales

end Cert.ReferenceIdeal.Flash

end
-- ==== Proof.FlashValue.lean ====
/- The attention call's result array is the reference's, at real arguments. -/
module

public import proofs.«01_k».proof.Proof.FlashGrid
public import proofs.«01_k».proof.Proof.FlashRef

@[expose] public section

set_option maxRecDepth 65536

noncomputable section

namespace Cert.KernelIdeal.Flash

open Cert.SoftMath Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The queries with the host's scale on them. -/
def scaled (q : FVec Ideal S3x8192x8x2x128 .f32) : FVec Ideal S3x8192x8x2x128 .f32 :=
  mulf q (broadcastInDim S3x8192x8x2x128 ![] bcast_S_S3x8192x8x2x128 (Host.divf (constant S_ .f32 0x3F800000#32)
    (mulf (Host.sqrt (constant S_ .f32 0x43000000#32)) (Host.log (constant S_ .f32 0x40000000#32)))))

/-- Queries, keys and values side by side. -/
def joined (a : FVec Ideal S24576x2048 .f32) (b d : FVec Ideal S24576x1024 .f32) : FVec Ideal S24576x4096 .bf16 :=
  truncf .bf16 (concatenate S24576x4096 1 [⟨S24576x2048, a⟩, ⟨S24576x1024, b⟩, ⟨S24576x1024, d⟩]
    concatenates_S24576x2048_S24576x1024_S24576x1024_S24576x4096_d1) bitsLt_bf16_f32

/-- The array the call reads. -/
theorem entry (c : Dev nD) : Gen.V m c main_v10 = joined
    (shapeCast S24576x2048 (scaled (m ((c : Thread nD τ).loc main_arg0))) shapeCasts_S3x8192x8x2x128_S24576x2048)
    (shapeCast S24576x1024 (m ((c : Thread nD τ).loc main_arg1) : FVec Ideal S3x8192x8x128 .f32) shapeCasts_S3x8192x8x128_S24576x1024)
    (shapeCast S24576x1024 (m ((c : Thread nD τ).loc main_arg2) : FVec Ideal S3x8192x8x128 .f32) shapeCasts_S3x8192x8x128_S24576x1024) := by
  rfl

/-- A scaled query. -/
theorem scaled_at (q : FVec Ideal S3x8192x8x2x128 .f32) (i : S3x8192x8x2x128.Idx) :
    scaled q i = q i * ((1 / (Real.sqrt 128 * Real.log 2) : ℝ) : EReal) := by
  rw [← scale_host]
  pointwise [scaled]

/-- The first columns are the queries'. -/
theorem joined_q (a : FVec Ideal S24576x2048 .f32) (b d : FVec Ideal S24576x1024 .f32) (i : Fin 24576) (j : Fin 2048) :
    joined a b d (ix2 i ⟨j.val, by omega⟩) = a (ix2 i j) := by
  pointwise [joined]
/-- The next are the keys'. -/
theorem joined_k (a : FVec Ideal S24576x2048 .f32) (b d : FVec Ideal S24576x1024 .f32) (i : Fin 24576) (j : Fin 1024) :
    joined a b d (ix2 i ⟨2048 + j.val, by omega⟩) = b (ix2 i j) := by
  pointwise [joined]
/-- The last are the values'. -/
theorem joined_v (a : FVec Ideal S24576x2048 .f32) (b d : FVec Ideal S24576x1024 .f32) (i : Fin 24576) (j : Fin 1024) :
    joined a b d (ix2 i ⟨3072 + j.val, by omega⟩) = d (ix2 i j) := by
  pointwise [joined]
  rw [dif_neg (by omega), dif_neg (by omega)]
  exact congrArg d (congrArg (ix2 i) (Fin.ext (by show 3072 + j.val - 2048 - 1024 = j.val; omega)))

/-- A key or a value in the array of rows. -/
theorem flat4 (x : FVec Ideal S3x8192x8x128 .f32) (i : Fin 24576) (j : Fin 1024) (b : Fin 3) (s : Fin 8192) (h : Fin 8) (d : Fin 128)
    (hi : i.val = b.val * 8192 + s.val) (hj : j.val = h.val * 128 + d.val) :
    shapeCast S24576x1024 x shapeCasts_S3x8192x8x128_S24576x1024 (ix2 i j) = x (ix4 b s h d) := by
  refine shapeCast_apply x shapeCasts_S3x8192x8x128_S24576x1024 (ix2 i j) (ix4 b s h d) ?_
  rewrite [Shape.rowMajor_val_four, Shape.rowMajor_val_two]
  show ((b.val * 8192 + s.val) * 8 + h.val) * 128 + d.val = i.val * 1024 + j.val
  omega

/-- A query in the array of rows. -/
theorem flat5 (x : FVec Ideal S3x8192x8x2x128 .f32) (i : Fin 24576) (j : Fin 2048) (b : Fin 3) (s : Fin 8192) (h : Fin 8) (g : Fin 2)
    (d : Fin 128) (hi : i.val = b.val * 8192 + s.val) (hj : j.val = h.val * 256 + g.val * 128 + d.val) :
    shapeCast S24576x2048 x shapeCasts_S3x8192x8x2x128_S24576x2048 (ix2 i j) = x (ix5 b s h g d) := by
  refine shapeCast_apply x shapeCasts_S3x8192x8x2x128_S24576x2048 (ix2 i j) (ix5 b s h g d) ?_
  rewrite [Shape.rowMajor_val_five, Shape.rowMajor_val_two]
  show (((b.val * 8192 + s.val) * 8 + h.val) * 2 + g.val) * 128 + d.val = i.val * 2048 + j.val
  omega

/-- The keys' block read off the keys. -/
theorem kb_at (c : Dev nD) (t : Fin cfg0.N) (s : Fin 8192) (d : Fin 128) (b : Fin 3) (h : Fin 8) (hb : b.val = t.val / 64)
    (hh : h.val = t.val / 8 % 8) : kb m c t (ix2 s d) = m ((c : Thread nD τ).loc main_arg1) (ix4 b s h d) := by
  show Gen.V m c main_v10 ((win0_1.blk t).view.emb (ix2 s d)) = _
  rw [entry]
  have e : (win0_1.blk t).view.emb (ix2 s d) = ix2 ⟨b.val * 8192 + s.val, by omega⟩ ⟨2048 + (h.val * 128 + d.val), by omega⟩ := by
    blk_ext [idx t]
  rw [e]
  exact (joined_k _ _ _ _ ⟨h.val * 128 + d.val, by omega⟩).trans (flat4 _ _ _ b s h d rfl rfl)

/-- The values' block read off the values. -/
theorem vb_at (c : Dev nD) (t : Fin cfg0.N) (s : Fin 8192) (d : Fin 128) (b : Fin 3) (h : Fin 8) (hb : b.val = t.val / 64)
    (hh : h.val = t.val / 8 % 8) : vb m c t (ix2 s d) = m ((c : Thread nD τ).loc main_arg2) (ix4 b s h d) := by
  show Gen.V m c main_v10 ((win0_2.blk t).view.emb (ix2 s d)) = _
  rw [entry]
  have e : (win0_2.blk t).view.emb (ix2 s d) = ix2 ⟨b.val * 8192 + s.val, by omega⟩ ⟨3072 + (h.val * 128 + d.val), by omega⟩ := by
    blk_ext [idx t]
  rw [e]
  exact (joined_v _ _ _ _ ⟨h.val * 128 + d.val, by omega⟩).trans (flat4 _ _ _ b s h d rfl rfl)

/-- The queries' block read off the scaled queries. -/
theorem xb_at (c : Dev nD) (t : Fin cfg0.N) (r : Fin 1024) (p : Fin 256) (b : Fin 3) (q : Fin 8192) (h : Fin 8) (g : Fin 2) (l : Fin 128)
    (hb : b.val = t.val / 64) (hh : h.val = t.val / 8 % 8) (hq : q.val = t.val % 8 * 1024 + r.val) (hp : p.val = g.val * 128 + l.val) :
    xb m c t (ix2 r p) = scaled (m ((c : Thread nD τ).loc main_arg0)) (ix5 b q h g l) := by
  show Gen.V m c main_v10 ((win0_0.blk t).view.emb (ix2 r p)) = _
  rw [entry]
  have e : (win0_0.blk t).view.emb (ix2 r p) = ix2 ⟨b.val * 8192 + q.val, by omega⟩ ⟨h.val * 256 + p.val, by omega⟩ := by
    blk_ext [idx t]
  rw [e]
  refine (joined_q _ _ _ _ ⟨h.val * 256 + p.val, by omega⟩).trans (flat5 _ _ _ b q h g l rfl ?_)
  show h.val * 256 + p.val = _
  omega

/-- At real arguments, one key's weight for one query. -/
theorem expo_at (c : Dev nD) (q : S3x8192x8x2x128.Idx → ℝ) (k : S3x8192x8x128.Idx → ℝ)
    (h0 : m ((c : Thread nD τ).loc main_arg0) = fun i => (q i : EReal)) (h1 : m ((c : Thread nD τ).loc main_arg1) = fun i => (k i : EReal))
    (t : Fin cfg0.N) (r : Fin 1024) (e : Fin 256) (b : Fin 3) (x : Fin 8192) (h : Fin 8) (g : Fin 2)
    (hb : b.val = t.val / 64) (hh : h.val = t.val / 8 % 8) (hx : x.val = t.val % 8 * 1024 + r.val) (hg : g.val = e.val / 128) (s : Fin 8192) :
    expo (kb m c t) (qb m c t) s.val (column r e) = Ideal.exp2 (∑ l : Fin 128,
      (k (ix4 b s h l) : EReal) * ((q (ix5 b x h g l) : EReal) * ((1 / (Real.sqrt 128 * Real.log 2) : ℝ) : EReal))) := by
  unfold expo
  refine congrArg Ideal.exp2 (Finset.sum_congr rfl fun l _ => ?_)
  have hl := l.isLt
  have he := e.isLt
  refine congrArg₂ (fun a b : EReal => a * b) ?_ ?_
  · rw [show Fin.ofNat 8192 s.val = s from Fin.ext (Nat.mod_eq_of_lt s.isLt)]
    exact (kb_at m c t s l b h hb hh).trans (congrFun h1 _)
  · refine (qb_at m c t r e l ⟨e.val / 128 * 128 + l.val, by omega⟩ rfl).trans ?_
    refine (xb_at m c t r ⟨e.val / 128 * 128 + l.val, by omega⟩ b x h g l hb hh hx (by show e.val / 128 * 128 + l.val = _; omega)).trans ((scaled_at _ _).trans ?_)
    exact congrArg (· * ((1 / (Real.sqrt 128 * Real.log 2) : ℝ) : EReal)) (congrFun h0 _)

/-- The array after the run is the reference's term over the queries, the keys and the values, where queries and keys are real. -/
theorem final (c : Dev nD) (q : S3x8192x8x2x128.Idx → ℝ) (k : S3x8192x8x128.Idx → ℝ)
    (h0 : m ((c : Thread nD τ).loc main_arg0) = fun i => (q i : EReal)) (h1 : m ((c : Thread nD τ).loc main_arg1) = fun i => (k i : EReal)) :
    (dats m 0 c).arrAt 3 (cfgs 0).N
    = Cert.ReferenceIdeal.Read.val_main_v20 (F := Ideal) (m ((c : Thread nD τ).loc main_arg0))
      (m ((c : Thread nD τ).loc main_arg1)) (m ((c : Thread nD τ).loc main_arg2)) := by
  refine (dats m 0 c).arrAt_eq_of_covers 3 _ (by decide +kernel) fun t hf y => ?_
  blk_simp
  rw [after0_3]
  have hN := (idx t).2.2.2.2
  have hy0 : (y 0).val < 1024 := (y 0).isLt
  have hy1 : (y 1).val < 256 := (y 1).isLt
  have e : (win0_3.blk t).view.emb y = ix2 ⟨t.val / 64 * 8192 + (t.val % 8 * 1024 + (y 0).val), by omega⟩
      ⟨t.val / 8 % 8 * 256 + (y 1).val, by omega⟩ := by
    blk_ext [idx t]
  rw [h0, h1]
  refine Eq.trans ?_ (congrArg _ e.symm)
  refine Eq.trans ?_ (Cert.ReferenceIdeal.Flash.ref_at q k (m ((c : Thread nD τ).loc main_arg2)) _ _ ⟨t.val / 64, by omega⟩ ⟨t.val % 8 * 1024 + (y 0).val, by omega⟩
    ⟨t.val / 8 % 8, by omega⟩ ⟨(y 1).val / 128, by omega⟩ ⟨(y 1).val % 128, by omega⟩ rfl
    (by show t.val / 8 % 8 * 256 + (y 1).val = t.val / 8 % 8 * 256 + (y 1).val / 128 * 128 + (y 1).val % 128; omega)).symm
  refine (congrArg _ (eq_ix2 y)).trans ((out_at m c t (y 0) (y 1)).trans ?_)
  have hw := expo_at m c q k h0 h1 t (y 0) (y 1) ⟨t.val / 64, by omega⟩ ⟨t.val % 8 * 1024 + (y 0).val, by omega⟩
    ⟨t.val / 8 % 8, by omega⟩ ⟨(y 1).val / 128, by omega⟩ rfl rfl rfl rfl
  unfold mean
  refine congrArg₂ Ideal.div (Finset.sum_congr rfl fun s _ => ?_) (Finset.sum_congr rfl fun s _ => hw s)
  exact congrArg₂ (fun a b : EReal => a * b) (vb_at m c t s _ _ _ rfl rfl) (hw s)

end Cert.KernelIdeal.Flash

end
-- ==== Proof.MlpMath.lean ====
/- The channel mixer of one row, written plainly: the row plus the product of the squared rectified hidden row with
   the second weight matrix, where the hidden row is the normalized row times the first weight matrix. -/
module

public import Idealize.ShloMosaic.Lib.Pipeline.ValueKit

@[expose] public section

noncomputable section

namespace Cert.MlpMath

open Idealize.ShloMosaic

/-- A row's normalizing factor: the reciprocal root of its mean square plus the small constant. -/
def rowScale {n : ℕ} (x : Fin n → EReal) : EReal :=
  Ideal.rsqrt (Ideal.div (∑ d, x d * x d) (Ideal.ofBits FTy.f32 1157627904#32) + Ideal.ofBits FTy.f32 897988541#32)

/-- One hidden unit: the normalized row times the gain, against the unit's weights, cut off below at zero. -/
def hiddenUnit {n : ℕ} (x g w : Fin n → EReal) : EReal := max (∑ d, x d * rowScale x * g d * w d) 0

end Cert.MlpMath

end
-- ==== Proof.Mlp2Pay.lean ====
/- What one grid point of the channel mixer computes from its blocks, read at an index. -/
module

public import proofs.«01_k».proof.Proof.Gen.Kernel2Ideal.Skeleton
public import proofs.«01_k».proof.Proof.MlpMath
public import Idealize.ShloMosaic.Lib.Pipeline.ValueKit

@[expose] public section

set_option maxRecDepth 16384

noncomputable section

namespace Cert.Kernel2Ideal.Mlp

open Cert.MlpMath Cert.Kernel2Ideal Cert.Kernel2Ideal.Gen Idealize.ShloMosaic Idealize.ShloMosaic.TcCoe Idealize.SL.Sem

/-- The block the first point of a row copies is the row's block of activations. -/
theorem copy_at (x : FVec Ideal S512x2048 .f32) (j : S512x2048.Idx) : k0_pay1 (F := Ideal) x j = x j := by
  pointwise [k0_pay1]

/-- The normalized row: an activation times its row's normalizing factor, times the gain. -/
theorem norm_at (x : FVec Ideal S512x2048 .f32) (g : FVec Ideal S1x2048 .f32) (r : Fin 512) (d : Fin 2048) :
    k0_pay2 (F := Ideal) x g (ix2 r d) = x (ix2 r d) * rowScale (fun k => x (ix2 r k)) * g (ix2 0 d) := by
  pointwise [k0_pay2, k0_pay1, rowScale]

/-- One point's contribution: the running block plus the product of the squared rectified hidden tile with its
    rows of the second weight matrix. -/
theorem step_at (xn : FVec Ideal S512x2048 .bf16) (wu : FVec Ideal S2048x1024 .bf16) (o : FVec Ideal S512x2048 .f32)
    (wd : FVec Ideal S1024x2048 .bf16) (j : S512x2048.Idx) :
    k0_pay3 (F := Ideal) xn wu o wd j = o j + ∑ k : Fin 1024, max (∑ l : Fin 2048, xn (ix2 (j 0) l) * wu (ix2 l k)) 0
      * max (∑ l : Fin 2048, xn (ix2 (j 0) l) * wu (ix2 l k)) 0 * wd (ix2 k (j 1)) := by
  pointwise [k0_pay3]

/-- The same contribution with the tile of normalized rows put in: the hidden units of the rows. -/
theorem part_at (x : FVec Ideal S512x2048 .f32) (g : FVec Ideal S1x2048 .f32) (wu : FVec Ideal S2048x1024 .bf16)
    (o : FVec Ideal S512x2048 .f32) (wd : FVec Ideal S1024x2048 .bf16) (j : S512x2048.Idx) :
    k0_pay3 (F := Ideal) (k0_pay2 (F := Ideal) x g) wu o wd j = o j + ∑ k : Fin 1024,
      hiddenUnit (fun l => x (ix2 (j 0) l)) (fun l => g (ix2 0 l)) (fun l => wu (ix2 l k))
      * hiddenUnit (fun l => x (ix2 (j 0) l)) (fun l => g (ix2 0 l)) (fun l => wu (ix2 l k)) * wd (ix2 k (j 1)) := by
  rw [step_at]
  refine congrArg (o j + ·) (Finset.sum_congr rfl fun k _ => ?_)
  have e : ∀ l, k0_pay2 (F := Ideal) x g (ix2 (j 0) l) = _ := fun l => norm_at x g (j 0) l
  simp only [e, hiddenUnit]

end Cert.Kernel2Ideal.Mlp

end
-- ==== Proof.Mlp2Ref.lean ====
/- What the reference computes, read at an index: the channel mixer of the row. -/
module

public import proofs.«01_k».proof.Proof.Gen.Reference2Ideal.Read
public import proofs.«01_k».proof.Proof.MlpMath
public import Idealize.ShloMosaic.Lib.Pipeline.ValueKit

@[expose] public section

set_option maxRecDepth 16384

noncomputable section

namespace Cert.Reference2Ideal.Mlp

open Cert.MlpMath Cert.Reference2Ideal Cert.Reference2Ideal.Gen Cert.Reference2Ideal.Read Idealize.ShloMosaic Idealize.ShloMosaic.TcCoe Idealize.SL.Sem

/-- The reference's result at a row and a column: the activation there plus the mixer of its row. -/
theorem ref_at (x : FVec Ideal S1x8192x2048 .f32) (g : FVec Ideal S2048 .f32) (wu : FVec Ideal S2048x8192 .f32)
    (wd : FVec Ideal S8192x2048 .f32) (r : Fin 8192) (d : Fin 2048) :
    val_main_v18 (F := Ideal) x g wu wd (ix2 r d) = x (ix3 0 r d) + ∑ k : Fin 8192,
      hiddenUnit (fun l => x (ix3 0 r l)) (fun l => g (ix1 l)) (fun l => wu (ix2 l k))
      * hiddenUnit (fun l => x (ix3 0 r l)) (fun l => g (ix1 l)) (fun l => wu (ix2 l k)) * wd (ix2 k d) := by
  pointwise [val_main_v0, val_main_v1, val_main_v2, val_main_v3, val_main_v4, val_main_v5, val_main_v6, val_main_v7,
    val_main_v8, val_main_v9, val_main_v10, val_main_v11, val_main_v12, val_main_v13, val_main_call0_cst,
    val_main_call0_v0, val_main_v14, val_main_v15, val_main_v16, val_main_v17, val_main_v18, val_main_cst,
    val_main_cst_0, val_main_cst_1, hiddenUnit, rowScale]

end Cert.Reference2Ideal.Mlp

end
-- ==== Proof.Mlp2Value.lean ====
/- The array the channel mixer's call leaves for the prompt rows, at an index. -/
module

public import proofs.«01_k».proof.Proof.Gen.Kernel2Ideal.Value
public import proofs.«01_k».proof.Proof.Mlp2Pay
public import proofs.«01_k».proof.Proof.Mlp2Ref
public import Idealize.ShloMosaic.Lib.Claim

@[expose] public section

set_option maxRecDepth 16384

noncomputable section

namespace Cert.Kernel2Ideal.Mlp

open Cert.MlpMath Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- Every window's block index at every grid point. -/
theorem idx : ∀ t : Fin cfg0.N, win0_0.index t = ![t.val / 8, 0] ∧ win0_1.index t = ![0, 0]
    ∧ win0_2.index t = ![0, t.val % 8] ∧ win0_3.index t = ![t.val % 8, 0] ∧ win0_4.index t = ![t.val / 8, 0]
    ∧ t.val < 128 :=
  (by decide +kernel : ∀ t : Fin grid0.N, _)

/-- Within a row of the grid the activations' block does not move. -/
theorem block_kept (c : Dev nD) (n : ℕ) (h : n + 1 < cfg0.N) (hn : ¬(n + 1) % 8 = 0) :
    iblk m c 0 ⟨n + 1, h⟩ = iblk m c 0 ⟨n, Nat.lt_of_succ_lt h⟩ ∧ iblk m c 1 ⟨n + 1, h⟩ = iblk m c 1 ⟨n, Nat.lt_of_succ_lt h⟩ := by
  constructor
  · funext y
    have := idx ⟨n + 1, h⟩
    have := idx ⟨n, Nat.lt_of_succ_lt h⟩
    blk_ext [iblk, idx ⟨n + 1, h⟩, idx ⟨n, Nat.lt_of_succ_lt h⟩]
  · funext y
    blk_ext [iblk, idx ⟨n + 1, h⟩, idx ⟨n, Nat.lt_of_succ_lt h⟩]

/-- At every point the scratch holds the normalized rows of the point's activations. -/
theorem scratch (c : Dev nD) : ∀ (n : ℕ) (h : n < cfg0.N),
    (outsAt0 m c n h).2 = k0_pay2 (F := Ideal) (iblk m c 0 ⟨n, h⟩) (iblk m c 1 ⟨n, h⟩) := by
  intro n
  induction n with
  | zero => intro h; rw [outsAt0_A m c ⟨0, h⟩ rfl]; frame_out
  | succ n ih =>
    intro h
    by_cases hn : (n + 1) % 8 = 0
    · rw [outsAt0_A m c ⟨n + 1, h⟩ hn]; frame_out
    · rw [outsAt0_B m c ⟨n + 1, h⟩ hn]; frame_out
      rw [(block_kept m c n h hn).1, (block_kept m c n h hn).2]
      exact ih _

/-- The point's block of activations. -/
abbrev xb (c : Dev nD) (t : Fin cfg0.N) : FVec Ideal S512x2048 .f32 := iblk m c 0 t
/-- The point's block of the gain: all of it. -/
abbrev gb (c : Dev nD) (t : Fin cfg0.N) : FVec Ideal S1x2048 .f32 := iblk m c 1 t
/-- The point's tile of columns of the first weights. -/
abbrev ub (c : Dev nD) (t : Fin cfg0.N) : FVec Ideal S2048x1024 .bf16 := iblk m c 2 t
/-- The point's tile of rows of the second weights. -/
abbrev db (c : Dev nD) (t : Fin cfg0.N) : FVec Ideal S1024x2048 .bf16 := iblk m c 3 t

/-- The prompt's rows lie first in the array of both sequences' rows. -/
theorem rows_at (x : FVec Ideal S1x8192x2048 .f32) (y : FVec Ideal S2x8192x2048 .f32) (i : S24576x2048.Idx) (q : Fin 8192)
    (l : Fin 2048) (h0 : (i 0).val = q.val) (h1 : (i 1).val = l.val) :
    concatenate S24576x2048 0 [⟨S8192x2048, fun i => shapeCast S8192x2048 x shapeCasts_S1x8192x2048_S8192x2048 i⟩,
      ⟨S16384x2048, fun i => shapeCast S16384x2048 y shapeCasts_S2x8192x2048_S16384x2048 i⟩] concatenates_S8192x2048_S16384x2048_S24576x2048_d0 i
      = x (ix3 0 q l) := by
  have e : i = ix2 ⟨q.val, by omega⟩ l := (eq_ix2 i).trans (congrArg₂ ix2 (Fin.ext h0) (Fin.ext h1))
  rw [e]
  pointwise

/-- The activations' block read off the prompt's activations. -/
theorem xb_at (c : Dev nD) (t : Fin cfg0.N) (r : Fin 512) (l : Fin 2048) (q : Fin 8192) (hq : q.val = 512 * (t.val / 8) + r.val) :
    xb m c t (ix2 r l) = m ((c : Thread nD τ).loc main_arg0) (ix3 0 q l) := by
  have := (idx t).2.2.2.2.2
  blk_simp [iblk, idx t]
  entry_read
  refine rows_at _ _ _ q l ?_ ?_
  · blk_simp [idx t]; omega
  · blk_simp [idx t]

/-- The gain's block read off the gain. -/
theorem gb_at (c : Dev nD) (t : Fin cfg0.N) (l : Fin 2048) :
    gb m c t (ix2 0 l) = m ((c : Thread nD τ).loc main_arg2) (ix1 l) := by
  blk_point [iblk, idx t]

/-- The first weights' tile read off the first weights. -/
theorem ub_at (c : Dev nD) (t : Fin cfg0.N) (l : Fin 2048) (k : Fin 1024) (q : Fin 8192) (hq : q.val = t.val % 8 * 1024 + k.val) :
    ub m c t (ix2 l k) = m ((c : Thread nD τ).loc main_arg3) (ix2 l q) := by
  blk_point [iblk, idx t]

/-- The second weights' tile read off the second weights. -/
theorem db_at (c : Dev nD) (t : Fin cfg0.N) (k : Fin 1024) (l : Fin 2048) (q : Fin 8192) (hq : q.val = t.val % 8 * 1024 + k.val) :
    db m c t (ix2 k l) = m ((c : Thread nD τ).loc main_arg4) (ix2 q l) := by
  blk_point [iblk, idx t]

/-- What a point adds to the block it works on: one tile of hidden units against their rows of the second weights. -/
def part (c : Dev nD) (t : Fin cfg0.N) (j : S512x2048.Idx) : EReal := ∑ k : Fin 1024,
  hiddenUnit (fun l : Fin 2048 => xb m c t (ix2 (j 0) l)) (fun l => gb m c t (ix2 0 l)) (fun l => ub m c t (ix2 l k))
    * hiddenUnit (fun l : Fin 2048 => xb m c t (ix2 (j 0) l)) (fun l => gb m c t (ix2 0 l)) (fun l => ub m c t (ix2 l k))
    * db m c t (ix2 k (j 1))

/-- The block after a grid row's first point: the activations plus the first part. -/
theorem first (c : Dev nD) (t : Fin cfg0.N) (h : t.val % 8 = 0) (j : S512x2048.Idx) :
    (outsAt0 m c t.val t.isLt).1 j = xb m c t j + part m c t j := by
  rw [outsAt0_A m c t h]
  frame_out
  rw [part_at, copy_at]
  rfl

/-- Away from a grid row's first point, the scratch still holds the normalized rows when the point begins. -/
theorem before (c : Dev nD) (t : Fin cfg0.N) (h : ¬t.val % 8 = 0) :
    (outsAt0 m c (t.val - 1) (Nat.lt_of_le_of_lt (Nat.sub_le _ _) t.isLt)).2
      = k0_pay2 (F := Ideal) (iblk m c 0 t) (iblk m c 1 t) := by
  obtain ⟨n, hn⟩ := t
  cases n with
  | zero => exact absurd rfl h
  | succ n =>
    rw [(block_kept m c n hn h).1, (block_kept m c n hn h).2]
    exact scratch m c n _

/-- The block after any other point: the block before plus the point's part. -/
theorem next (c : Dev nD) (t : Fin cfg0.N) (h : ¬t.val % 8 = 0) (j : S512x2048.Idx) :
    (outsAt0 m c t.val t.isLt).1 j = (outsAt0 m c (t.val - 1) (Nat.lt_of_le_of_lt (Nat.sub_le _ _) t.isLt)).1 j
      + part m c t j := by
  rw [outsAt0_B m c t h]
  frame_out
  rw [(Memref.isWhole_whole _).read_unread, before m c t h]
  rw [part_at]; rfl

/-- The block at a row's last point: the activations plus the eight parts. -/
theorem block_sum (c : Dev nD) (t : Fin cfg0.N) (h : t.val % 8 = 8 - 1) (j : S512x2048.Idx) :
    (outsAt0 m c t.val t.isLt).1 j = xb m c t j
      + ∑ s : Fin 8, part m c ⟨8 * (t.val / 8) + s.val, Pipeline.run_point_lt_of_flush t h s⟩ j := by
  have hf : ∀ t : Fin cfg0.N, t.val % 8 = 0 → ∀ j : S512x2048.Idx, (outsAt0 m c t.val t.isLt).1 j = (0 : EReal)
      + ((if t.val % 8 = 0 then xb m c t j else 0) + part m c t j) :=
    fun t h j => by rw [if_pos h, zero_add]; exact first m c t h j
  have hs : ∀ t : Fin cfg0.N, ¬t.val % 8 = 0 → ∀ j : S512x2048.Idx, (outsAt0 m c t.val t.isLt).1 j
      = (outsAt0 m c (t.val - 1) (Nat.lt_of_le_of_lt (Nat.sub_le _ _) t.isLt)).1 j
      + ((if t.val % 8 = 0 then xb m c t j else 0) + part m c t j) :=
    fun t h j => by rw [if_neg h, zero_add]; exact next m c t h j
  have e := Pipeline.eq_sum_fin_of_reset_step_apply_of_flush (M := EReal) (fun n h => (outsAt0 m c n h).1) 8 (fun _ => 0)
    (fun t j => (if t.val % 8 = 0 then xb m c t j else 0) + part m c t j)
    hf hs t h j
  refine e.trans ?_
  rw [zero_add, Finset.sum_add_distrib]
  congr 1
  rw [Finset.sum_eq_single_of_mem (0 : Fin 8) (Finset.mem_univ _) (fun s _ hs => if_neg (by
    have : s.val ≠ 0 := fun h => hs (Fin.ext h)
    have := s.isLt
    show ¬(8 * (t.val / 8) + s.val) % 8 = 0
    omega))]
  rw [if_pos (by show (8 * (t.val / 8) + 0) % 8 = 0; omega)]
  blk_ext [iblk, idx t, idx ⟨8 * (t.val / 8) + (0 : Fin 8).val, Pipeline.run_point_lt_of_flush t h 0⟩]

/-- The array after the run is the reference's term over the prompt's activations, the gain and the weights. -/
theorem final (c : Dev nD) : (dats m 0 c).arrAt 4 (cfgs 0).N
    = Cert.Reference2Ideal.Read.val_main_v18 (F := Ideal) (m ((c : Thread nD τ).loc main_arg0))
      (m ((c : Thread nD τ).loc main_arg2)) (m ((c : Thread nD τ).loc main_arg3)) (m ((c : Thread nD τ).loc main_arg4)) := by
  refine (dats m 0 c).arrAt_eq_of_covers 4 _ (by decide +kernel) fun t hf y => ?_
  blk_simp
  rw [after0_4]
  refine (block_sum m c t ((flush0_4 t).mp hf) y).trans ?_
  refine Eq.trans ?_ (congrArg _ (eq_ix2 _).symm)
  refine Eq.trans ?_ (Cert.Reference2Ideal.Mlp.ref_at _ _ _ _ _ _).symm
  refine congrArg₂ (fun a b : EReal => a + b) ?_ ?_
  · refine (congrArg (xb m c t) (eq_ix2 y)).trans ?_
    refine (xb_at m c t (y 0) (y 1) ((win0_4.blk t).view.emb y 0) (by blk_simp [idx t]; omega)).trans ?_
    refine congrArg _ (congrArg (ix3 _ _) (Fin.ext ?_))
    blk_simp [idx t]
  · refine Fin.sum_mul_add_congr fun s k hl => ?_
    have hN := (idx t).2.2.2.2.2
    have hq : ((⟨s.val * 1024 + k.val, hl⟩ : Fin 8192) : ℕ) = (8 * (t.val / 8) + s.val) % 8 * 1024 + k.val := by
      show s.val * 1024 + k.val = _
      omega
    have e1 : ∀ l : Fin 2048, _ := fun l => xb_at m c ⟨8 * (t.val / 8) + s.val, Pipeline.run_point_lt_of_flush t ((flush0_4 t).mp hf) s⟩ (y 0) l
      ((win0_4.blk t).view.emb y 0) (by
        show _ = 512 * ((8 * (t.val / 8) + s.val) / 8) + (y 0).val
        blk_simp [idx t]; omega)
    have e2 := gb_at m c ⟨8 * (t.val / 8) + s.val, Pipeline.run_point_lt_of_flush t ((flush0_4 t).mp hf) s⟩
    have e3 := fun l => ub_at m c ⟨8 * (t.val / 8) + s.val, Pipeline.run_point_lt_of_flush t ((flush0_4 t).mp hf) s⟩ l k _ hq
    have e4 := db_at m c ⟨8 * (t.val / 8) + s.val, Pipeline.run_point_lt_of_flush t ((flush0_4 t).mp hf) s⟩ k (y 1) _ hq
    refine congrArg₂ (fun a b : EReal => a * b) (congrArg₂ (fun a b : EReal => a * b) ?_ ?_) ?_
    · exact congr (congr (congrArg hiddenUnit (funext e1)) (funext e2)) (funext e3)
    · exact congr (congr (congrArg hiddenUnit (funext e1)) (funext e2)) (funext e3)
    · refine e4.trans (congrArg _ (congrArg (ix2 _) (Fin.ext ?_)))
      blk_simp [idx t]

end Cert.Kernel2Ideal.Mlp

end
-- ==== Proof.Mlp3Pay.lean ====
/- What one grid point of the channel mixer computes from its blocks, read at an index. -/
module

public import proofs.«01_k».proof.Proof.Gen.Kernel3Ideal.Skeleton
public import proofs.«01_k».proof.Proof.MlpMath
public import Idealize.ShloMosaic.Lib.Pipeline.ValueKit

@[expose] public section

set_option maxRecDepth 16384

noncomputable section

namespace Cert.Kernel3Ideal.Mlp

open Cert.MlpMath Cert.Kernel3Ideal Cert.Kernel3Ideal.Gen Idealize.ShloMosaic Idealize.ShloMosaic.TcCoe Idealize.SL.Sem

/-- The block the first point of a row copies is the row's block of activations. -/
theorem copy_at (x : FVec Ideal S512x2048 .f32) (j : S512x2048.Idx) : k0_pay1 (F := Ideal) x j = x j := by
  pointwise [k0_pay1]

/-- The normalized row: an activation times its row's normalizing factor, times the gain. -/
theorem norm_at (x : FVec Ideal S512x2048 .f32) (g : FVec Ideal S1x2048 .f32) (r : Fin 512) (d : Fin 2048) :
    k0_pay2 (F := Ideal) x g (ix2 r d) = x (ix2 r d) * rowScale (fun k => x (ix2 r k)) * g (ix2 0 d) := by
  pointwise [k0_pay2, k0_pay1, rowScale]

/-- One point's contribution: the running block plus the product of the squared rectified hidden tile with its
    rows of the second weight matrix. -/
theorem step_at (xn : FVec Ideal S512x2048 .bf16) (wu : FVec Ideal S2048x1024 .bf16) (o : FVec Ideal S512x2048 .f32)
    (wd : FVec Ideal S1024x2048 .bf16) (j : S512x2048.Idx) :
    k0_pay3 (F := Ideal) xn wu o wd j = o j + ∑ k : Fin 1024, max (∑ l : Fin 2048, xn (ix2 (j 0) l) * wu (ix2 l k)) 0
      * max (∑ l : Fin 2048, xn (ix2 (j 0) l) * wu (ix2 l k)) 0 * wd (ix2 k (j 1)) := by
  pointwise [k0_pay3]

/-- The same contribution with the tile of normalized rows put in: the hidden units of the rows. -/
theorem part_at (x : FVec Ideal S512x2048 .f32) (g : FVec Ideal S1x2048 .f32) (wu : FVec Ideal S2048x1024 .bf16)
    (o : FVec Ideal S512x2048 .f32) (wd : FVec Ideal S1024x2048 .bf16) (j : S512x2048.Idx) :
    k0_pay3 (F := Ideal) (k0_pay2 (F := Ideal) x g) wu o wd j = o j + ∑ k : Fin 1024,
      hiddenUnit (fun l => x (ix2 (j 0) l)) (fun l => g (ix2 0 l)) (fun l => wu (ix2 l k))
      * hiddenUnit (fun l => x (ix2 (j 0) l)) (fun l => g (ix2 0 l)) (fun l => wu (ix2 l k)) * wd (ix2 k (j 1)) := by
  rw [step_at]
  refine congrArg (o j + ·) (Finset.sum_congr rfl fun k _ => ?_)
  have e : ∀ l, k0_pay2 (F := Ideal) x g (ix2 (j 0) l) = _ := fun l => norm_at x g (j 0) l
  simp only [e, hiddenUnit]

end Cert.Kernel3Ideal.Mlp

end
-- ==== Proof.Mlp3Ref.lean ====
/- What the reference computes, read at an index: the channel mixer of the row. -/
module

public import proofs.«01_k».proof.Proof.Gen.Reference3Ideal.Read
public import proofs.«01_k».proof.Proof.MlpMath
public import Idealize.ShloMosaic.Lib.Pipeline.ValueKit

@[expose] public section

set_option maxRecDepth 16384

noncomputable section

namespace Cert.Reference3Ideal.Mlp

open Cert.MlpMath Cert.Reference3Ideal Cert.Reference3Ideal.Gen Cert.Reference3Ideal.Read Idealize.ShloMosaic Idealize.ShloMosaic.TcCoe Idealize.SL.Sem

/-- The reference's result at a row and a column: the activation there plus the mixer of its row. -/
theorem ref_at (x : FVec Ideal S2x8192x2048 .f32) (g : FVec Ideal S2048 .f32) (wu : FVec Ideal S2048x8192 .f32)
    (wd : FVec Ideal S8192x2048 .f32) (b : Fin 2) (r : Fin 8192) (q : Fin 16384) (hq : q.val = b.val * 8192 + r.val) (d : Fin 2048) :
    val_main_v18 (F := Ideal) x g wu wd (ix2 q d) = x (ix3 b r d) + ∑ k : Fin 8192,
      hiddenUnit (fun l => x (ix3 b r l)) (fun l => g (ix1 l)) (fun l => wu (ix2 l k))
      * hiddenUnit (fun l => x (ix3 b r l)) (fun l => g (ix1 l)) (fun l => wu (ix2 l k)) * wd (ix2 k d) := by
  have hb : b = ⟨q.val / 8192, by clear hq; omega⟩ := Fin.ext (by show b.val = q.val / 8192; omega)
  have hr : r = ⟨q.val % 8192, by clear hq; omega⟩ := Fin.ext (by show r.val = q.val % 8192; omega)
  rw [hb, hr]
  pointwise [val_main_v0, val_main_v1, val_main_v2, val_main_v3, val_main_v4, val_main_v5, val_main_v6, val_main_v7,
    val_main_v8, val_main_v9, val_main_v10, val_main_v11, val_main_v12, val_main_v13, val_main_call0_cst,
    val_main_call0_v0, val_main_v14, val_main_v15, val_main_v16, val_main_v17, val_main_v18, val_main_cst,
    val_main_cst_0, val_main_cst_1, hiddenUnit, rowScale]

end Cert.Reference3Ideal.Mlp

end
-- ==== Proof.Mlp3Value.lean ====
/- The array the channel mixer's call leaves for the samples rows, at an index. -/
module

public import proofs.«01_k».proof.Proof.Gen.Kernel3Ideal.Value
public import proofs.«01_k».proof.Proof.Mlp3Pay
public import proofs.«01_k».proof.Proof.Mlp3Ref
public import Idealize.ShloMosaic.Lib.Claim

@[expose] public section

set_option maxRecDepth 16384

noncomputable section

namespace Cert.Kernel3Ideal.Mlp

open Cert.MlpMath Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- Every window's block index at every grid point. -/
theorem idx : ∀ t : Fin cfg0.N, win0_0.index t = ![16 + t.val / 8, 0] ∧ win0_1.index t = ![0, 0]
    ∧ win0_2.index t = ![0, t.val % 8] ∧ win0_3.index t = ![t.val % 8, 0] ∧ win0_4.index t = ![t.val / 8, 0]
    ∧ t.val < 256 :=
  (by decide +kernel : ∀ t : Fin grid0.N, _)

/-- Within a row of the grid the activations' block does not move. -/
theorem block_kept (c : Dev nD) (n : ℕ) (h : n + 1 < cfg0.N) (hn : ¬(n + 1) % 8 = 0) :
    iblk m c 0 ⟨n + 1, h⟩ = iblk m c 0 ⟨n, Nat.lt_of_succ_lt h⟩ ∧ iblk m c 1 ⟨n + 1, h⟩ = iblk m c 1 ⟨n, Nat.lt_of_succ_lt h⟩ := by
  constructor
  · funext y
    have := idx ⟨n + 1, h⟩
    have := idx ⟨n, Nat.lt_of_succ_lt h⟩
    blk_ext [iblk, idx ⟨n + 1, h⟩, idx ⟨n, Nat.lt_of_succ_lt h⟩]
  · funext y
    blk_ext [iblk, idx ⟨n + 1, h⟩, idx ⟨n, Nat.lt_of_succ_lt h⟩]

/-- At every point the scratch holds the normalized rows of the point's activations. -/
theorem scratch (c : Dev nD) : ∀ (n : ℕ) (h : n < cfg0.N),
    (outsAt0 m c n h).2 = k0_pay2 (F := Ideal) (iblk m c 0 ⟨n, h⟩) (iblk m c 1 ⟨n, h⟩) := by
  intro n
  induction n with
  | zero => intro h; rw [outsAt0_A m c ⟨0, h⟩ rfl]; frame_out
  | succ n ih =>
    intro h
    by_cases hn : (n + 1) % 8 = 0
    · rw [outsAt0_A m c ⟨n + 1, h⟩ hn]; frame_out
    · rw [outsAt0_B m c ⟨n + 1, h⟩ hn]; frame_out
      rw [(block_kept m c n h hn).1, (block_kept m c n h hn).2]
      exact ih _

/-- The point's block of activations. -/
abbrev xb (c : Dev nD) (t : Fin cfg0.N) : FVec Ideal S512x2048 .f32 := iblk m c 0 t
/-- The point's block of the gain: all of it. -/
abbrev gb (c : Dev nD) (t : Fin cfg0.N) : FVec Ideal S1x2048 .f32 := iblk m c 1 t
/-- The point's tile of columns of the first weights. -/
abbrev ub (c : Dev nD) (t : Fin cfg0.N) : FVec Ideal S2048x1024 .bf16 := iblk m c 2 t
/-- The point's tile of rows of the second weights. -/
abbrev db (c : Dev nD) (t : Fin cfg0.N) : FVec Ideal S1024x2048 .bf16 := iblk m c 3 t

/-- A row of the samples laid flat. -/
theorem flat_at (y : FVec Ideal S2x8192x2048 .f32) (b : Fin 2) (q : Fin 8192) (l : Fin 2048) (p : Fin 16384)
    (hp : p.val = b.val * 8192 + q.val) :
    shapeCast S16384x2048 y shapeCasts_S2x8192x2048_S16384x2048 (ix2 p l) = y (ix3 b q l) := by
  have hb : b = ⟨p.val / 8192, by clear hp; omega⟩ := Fin.ext (by show b.val = p.val / 8192; omega)
  have hq : q = ⟨p.val % 8192, by clear hp; omega⟩ := Fin.ext (by show q.val = p.val % 8192; omega)
  rw [hb, hq]
  pointwise

/-- The samples' rows lie last in the array of both sequences' rows. -/
theorem rows_at (x : FVec Ideal S1x8192x2048 .f32) (y : FVec Ideal S2x8192x2048 .f32) (i : S24576x2048.Idx) (b : Fin 2) (q : Fin 8192)
    (l : Fin 2048) (h0 : (i 0).val = 8192 + (b.val * 8192 + q.val)) (h1 : (i 1).val = l.val) :
    concatenate S24576x2048 0 [⟨S8192x2048, fun i => shapeCast S8192x2048 x shapeCasts_S1x8192x2048_S8192x2048 i⟩,
      ⟨S16384x2048, fun i => shapeCast S16384x2048 y shapeCasts_S2x8192x2048_S16384x2048 i⟩] concatenates_S8192x2048_S16384x2048_S24576x2048_d0 i
      = y (ix3 b q l) := by
  refine (concatenate_pair_apply_right (s₁ := S8192x2048) (s₂ := S16384x2048) 0 _ _ _ i rfl rfl
    (ix2 ⟨b.val * 8192 + q.val, by omega⟩ l) (fun a ha => ?_) ?_).trans (flat_at y b q l _ rfl)
  · match a with
    | 0 => exact absurd rfl ha
    | 1 => exact h1.symm
  · exact (Nat.add_comm _ _).trans h0.symm

/-- The activations' block read off the samples' activations. -/
theorem xb_at (c : Dev nD) (t : Fin cfg0.N) (r : Fin 512) (l : Fin 2048) (b : Fin 2) (q : Fin 8192)
    (hq : b.val * 8192 + q.val = 512 * (t.val / 8) + r.val) :
    xb m c t (ix2 r l) = m ((c : Thread nD τ).loc main_arg1) (ix3 b q l) := by
  have := (idx t).2.2.2.2.2
  blk_simp [iblk, idx t]
  entry_read
  refine rows_at _ _ _ b q l ?_ ?_
  · blk_simp [idx t]; omega
  · blk_simp [idx t]

/-- The gain's block read off the gain. -/
theorem gb_at (c : Dev nD) (t : Fin cfg0.N) (l : Fin 2048) :
    gb m c t (ix2 0 l) = m ((c : Thread nD τ).loc main_arg2) (ix1 l) := by
  blk_point [iblk, idx t]

/-- The first weights' tile read off the first weights. -/
theorem ub_at (c : Dev nD) (t : Fin cfg0.N) (l : Fin 2048) (k : Fin 1024) (q : Fin 8192) (hq : q.val = t.val % 8 * 1024 + k.val) :
    ub m c t (ix2 l k) = m ((c : Thread nD τ).loc main_arg3) (ix2 l q) := by
  blk_point [iblk, idx t]

/-- The second weights' tile read off the second weights. -/
theorem db_at (c : Dev nD) (t : Fin cfg0.N) (k : Fin 1024) (l : Fin 2048) (q : Fin 8192) (hq : q.val = t.val % 8 * 1024 + k.val) :
    db m c t (ix2 k l) = m ((c : Thread nD τ).loc main_arg4) (ix2 q l) := by
  blk_point [iblk, idx t]

/-- What a point adds to the block it works on: one tile of hidden units against their rows of the second weights. -/
def part (c : Dev nD) (t : Fin cfg0.N) (j : S512x2048.Idx) : EReal := ∑ k : Fin 1024,
  hiddenUnit (fun l : Fin 2048 => xb m c t (ix2 (j 0) l)) (fun l => gb m c t (ix2 0 l)) (fun l => ub m c t (ix2 l k))
    * hiddenUnit (fun l : Fin 2048 => xb m c t (ix2 (j 0) l)) (fun l => gb m c t (ix2 0 l)) (fun l => ub m c t (ix2 l k))
    * db m c t (ix2 k (j 1))

/-- The block after a grid row's first point: the activations plus the first part. -/
theorem first (c : Dev nD) (t : Fin cfg0.N) (h : t.val % 8 = 0) (j : S512x2048.Idx) :
    (outsAt0 m c t.val t.isLt).1 j = xb m c t j + part m c t j := by
  rw [outsAt0_A m c t h]
  frame_out
  rw [part_at, copy_at]
  rfl

/-- Away from a grid row's first point, the scratch still holds the normalized rows when the point begins. -/
theorem before (c : Dev nD) (t : Fin cfg0.N) (h : ¬t.val % 8 = 0) :
    (outsAt0 m c (t.val - 1) (Nat.lt_of_le_of_lt (Nat.sub_le _ _) t.isLt)).2
      = k0_pay2 (F := Ideal) (iblk m c 0 t) (iblk m c 1 t) := by
  obtain ⟨n, hn⟩ := t
  cases n with
  | zero => exact absurd rfl h
  | succ n =>
    rw [(block_kept m c n hn h).1, (block_kept m c n hn h).2]
    exact scratch m c n _

/-- The block after any other point: the block before plus the point's part. -/
theorem next (c : Dev nD) (t : Fin cfg0.N) (h : ¬t.val % 8 = 0) (j : S512x2048.Idx) :
    (outsAt0 m c t.val t.isLt).1 j = (outsAt0 m c (t.val - 1) (Nat.lt_of_le_of_lt (Nat.sub_le _ _) t.isLt)).1 j
      + part m c t j := by
  rw [outsAt0_B m c t h]
  frame_out
  rw [(Memref.isWhole_whole _).read_unread, before m c t h]
  rw [part_at]; rfl

/-- The block at a row's last point: the activations plus the eight parts. -/
theorem block_sum (c : Dev nD) (t : Fin cfg0.N) (h : t.val % 8 = 8 - 1) (j : S512x2048.Idx) :
    (outsAt0 m c t.val t.isLt).1 j = xb m c t j
      + ∑ s : Fin 8, part m c ⟨8 * (t.val / 8) + s.val, Pipeline.run_point_lt_of_flush t h s⟩ j := by
  have hf : ∀ t : Fin cfg0.N, t.val % 8 = 0 → ∀ j : S512x2048.Idx, (outsAt0 m c t.val t.isLt).1 j = (0 : EReal)
      + ((if t.val % 8 = 0 then xb m c t j else 0) + part m c t j) :=
    fun t h j => by rw [if_pos h, zero_add]; exact first m c t h j
  have hs : ∀ t : Fin cfg0.N, ¬t.val % 8 = 0 → ∀ j : S512x2048.Idx, (outsAt0 m c t.val t.isLt).1 j
      = (outsAt0 m c (t.val - 1) (Nat.lt_of_le_of_lt (Nat.sub_le _ _) t.isLt)).1 j
      + ((if t.val % 8 = 0 then xb m c t j else 0) + part m c t j) :=
    fun t h j => by rw [if_neg h, zero_add]; exact next m c t h j
  have e := Pipeline.eq_sum_fin_of_reset_step_apply_of_flush (M := EReal) (fun n h => (outsAt0 m c n h).1) 8 (fun _ => 0)
    (fun t j => (if t.val % 8 = 0 then xb m c t j else 0) + part m c t j)
    hf hs t h j
  refine e.trans ?_
  rw [zero_add, Finset.sum_add_distrib]
  congr 1
  rw [Finset.sum_eq_single_of_mem (0 : Fin 8) (Finset.mem_univ _) (fun s _ hs => if_neg (by
    have : s.val ≠ 0 := fun h => hs (Fin.ext h)
    have := s.isLt
    show ¬(8 * (t.val / 8) + s.val) % 8 = 0
    omega))]
  rw [if_pos (by show (8 * (t.val / 8) + 0) % 8 = 0; omega)]
  blk_ext [iblk, idx t, idx ⟨8 * (t.val / 8) + (0 : Fin 8).val, Pipeline.run_point_lt_of_flush t h 0⟩]

/-- The array after the run is the reference's term over the samples' activations, the gain and the weights. -/
theorem final (c : Dev nD) : (dats m 0 c).arrAt 4 (cfgs 0).N
    = Cert.Reference3Ideal.Read.val_main_v18 (F := Ideal) (m ((c : Thread nD τ).loc main_arg1))
      (m ((c : Thread nD τ).loc main_arg2)) (m ((c : Thread nD τ).loc main_arg3)) (m ((c : Thread nD τ).loc main_arg4)) := by
  refine (dats m 0 c).arrAt_eq_of_covers 4 _ (by decide +kernel) fun t hf y => ?_
  blk_simp
  rw [after0_4]
  refine (block_sum m c t ((flush0_4 t).mp hf) y).trans ?_
  have hQ : ((win0_4.blk t).view.emb y 0).val = 512 * (t.val / 8) + (y 0).val := by blk_simp [idx t]; omega
  have hQlt : 512 * (t.val / 8) + (y 0).val < 16384 := hQ ▸ ((win0_4.blk t).view.emb y 0).isLt
  let b : Fin 2 := ⟨(512 * (t.val / 8) + (y 0).val) / 8192, by omega⟩
  let q : Fin 8192 := ⟨(512 * (t.val / 8) + (y 0).val) % 8192, by omega⟩
  have hbq : b.val * 8192 + q.val = 512 * (t.val / 8) + (y 0).val := by
    show (512 * (t.val / 8) + (y 0).val) / 8192 * 8192 + (512 * (t.val / 8) + (y 0).val) % 8192 = _
    omega
  refine Eq.trans ?_ (congrArg _ (eq_ix2 _).symm)
  refine Eq.trans ?_ (Cert.Reference3Ideal.Mlp.ref_at _ _ _ _ b q _ (hQ.trans hbq.symm) _).symm
  refine congrArg₂ (fun a b : EReal => a + b) ?_ ?_
  · refine (congrArg (xb m c t) (eq_ix2 y)).trans ?_
    refine (xb_at m c t (y 0) (y 1) b q hbq).trans ?_
    refine congrArg _ (congrArg (ix3 _ _) (Fin.ext ?_))
    blk_simp [idx t]
  · refine Fin.sum_mul_add_congr fun s k hl => ?_
    have hN := (idx t).2.2.2.2.2
    have hq : ((⟨s.val * 1024 + k.val, hl⟩ : Fin 8192) : ℕ) = (8 * (t.val / 8) + s.val) % 8 * 1024 + k.val := by
      show s.val * 1024 + k.val = _
      omega
    have e1 : ∀ l : Fin 2048, _ := fun l => xb_at m c ⟨8 * (t.val / 8) + s.val, Pipeline.run_point_lt_of_flush t ((flush0_4 t).mp hf) s⟩ (y 0) l
      b q (by
        show _ = 512 * ((8 * (t.val / 8) + s.val) / 8) + (y 0).val
        rw [hbq]; omega)
    have e2 := gb_at m c ⟨8 * (t.val / 8) + s.val, Pipeline.run_point_lt_of_flush t ((flush0_4 t).mp hf) s⟩
    have e3 := fun l => ub_at m c ⟨8 * (t.val / 8) + s.val, Pipeline.run_point_lt_of_flush t ((flush0_4 t).mp hf) s⟩ l k _ hq
    have e4 := db_at m c ⟨8 * (t.val / 8) + s.val, Pipeline.run_point_lt_of_flush t ((flush0_4 t).mp hf) s⟩ k (y 1) _ hq
    refine congrArg₂ (fun a b : EReal => a * b) (congrArg₂ (fun a b : EReal => a * b) ?_ ?_) ?_
    · exact congr (congr (congrArg hiddenUnit (funext e1)) (funext e2)) (funext e3)
    · exact congr (congr (congrArg hiddenUnit (funext e1)) (funext e2)) (funext e3)
    · refine e4.trans (congrArg _ (congrArg (ix2 _) (Fin.ext ?_)))
      blk_simp [idx t]

end Cert.Kernel3Ideal.Mlp

end
-- ==== Proof.Proj4Value.lean ====
/- The array the residual projection's call (inner size 2048) leaves, against the reference's. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Claim

@[expose] public section

set_option maxRecDepth 16384

noncomputable section

namespace Cert.Reference4Ideal.Proj

open Cert.Reference4Ideal Cert.Reference4Ideal.Gen Cert.Reference4Ideal.Read Idealize.ShloMosaic Idealize.ShloMosaic.TcCoe Idealize.SL.Sem

/-- The reference's result at a row and a column: the activation there plus the row against the weights' column. -/
theorem ref_at (a : FVec Ideal S3x8192x2048 .f32) (w : FVec Ideal S2048x2048 .f32) (h : FVec Ideal S3x8192x2048 .f32)
    (b : Fin 3) (r : Fin 8192) (q : Fin 24576) (hq : q.val = b.val * 8192 + r.val) (d : Fin 2048) :
    val_main_v2 (F := Ideal) a w h (ix2 q d) = h (ix3 b r d) + ∑ k : Fin 2048, a (ix3 b r k) * w (ix2 k d) := by
  have hb : b = ⟨q.val / 8192, by clear hq; omega⟩ := Fin.ext (by show b.val = q.val / 8192; omega)
  have hr : r = ⟨q.val % 8192, by clear hq; omega⟩ := Fin.ext (by show r.val = q.val % 8192; omega)
  rw [hb, hr]
  pointwise [val_main_v0, val_main_v1, val_main_v2]

end Cert.Reference4Ideal.Proj

namespace Cert.Kernel4Ideal.Proj

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- Every window's block index at every grid point. -/
theorem idx : ∀ t : Fin cfg0.N, win0_0.index t = ![t.val / 2, 0] ∧ win0_1.index t = ![0, t.val % 2]
    ∧ win0_2.index t = ![t.val / 2, t.val % 2] ∧ win0_3.index t = ![t.val / 2, t.val % 2] ∧ t.val < 48 :=
  (by decide +kernel : ∀ t : Fin grid0.N, _)

/-- The block a point stores: its block of activations plus its rows against its columns of the weights. -/
theorem step_at (h : FVec Ideal S1024x1024 .f32) (a : FVec Ideal S1024x2048 .bf16) (w : FVec Ideal S2048x1024 .bf16)
    (r d : Fin 1024) : k0_pay1 (F := Ideal) h a w (ix2 r d) = h (ix2 r d) + ∑ k : Fin 2048, a (ix2 r k) * w (ix2 k d) := by
  pointwise [k0_pay1]

/-- The point's block of rows of the projected array. -/
theorem a_at (c : Dev nD) (t : Fin cfg0.N) (r : Fin 1024) (k : Fin 2048) (b : Fin 3) (q : Fin 8192)
    (hq : b.val * 8192 + q.val = t.val / 2 * 1024 + r.val) :
    (iblk m c 0 t : FVec Ideal S1024x2048 .bf16) (ix2 r k) = m ((c : Thread nD τ).loc main_arg0) (ix3 b q k) := by
  blk_point [iblk, idx t]

/-- The point's block of columns of the weights. -/
theorem w_at (c : Dev nD) (t : Fin cfg0.N) (k : Fin 2048) (d : Fin 1024) (e : Fin 2048) (he : e.val = t.val % 2 * 1024 + d.val) :
    (iblk m c 1 t : FVec Ideal S2048x1024 .bf16) (ix2 k d) = m ((c : Thread nD τ).loc main_arg1) (ix2 k e) := by
  blk_point [iblk, idx t]

/-- The point's block of activations. -/
theorem h_at (c : Dev nD) (t : Fin cfg0.N) (r d : Fin 1024) (b : Fin 3) (q : Fin 8192) (e : Fin 2048)
    (hq : b.val * 8192 + q.val = t.val / 2 * 1024 + r.val) (he : e.val = t.val % 2 * 1024 + d.val) :
    (iblk m c 2 t : FVec Ideal S1024x1024 .f32) (ix2 r d) = m ((c : Thread nD τ).loc main_arg2) (ix3 b q e) := by
  blk_point [iblk, idx t]

/-- The array after the run is the reference's term over the projected rows, the weights and the activations. -/
theorem final (c : Dev nD) : (dats m 0 c).arrAt 3 (cfgs 0).N
    = Cert.Reference4Ideal.Read.val_main_v2 (F := Ideal) (m ((c : Thread nD τ).loc main_arg0))
      (m ((c : Thread nD τ).loc main_arg1)) (m ((c : Thread nD τ).loc main_arg2)) := by
  refine (dats m 0 c).arrAt_eq_of_covers 3 _ (by decide +kernel) fun t hf y => ?_
  blk_simp
  rw [after0_3]
  frame_out
  have hQ : ((win0_3.blk t).view.emb y 0).val = t.val / 2 * 1024 + (y 0).val := by blk_simp [idx t]
  have hE : ((win0_3.blk t).view.emb y 1).val = t.val % 2 * 1024 + (y 1).val := by blk_simp [idx t]
  have hQlt : t.val / 2 * 1024 + (y 0).val < 24576 := hQ ▸ ((win0_3.blk t).view.emb y 0).isLt
  let b : Fin 3 := ⟨(t.val / 2 * 1024 + (y 0).val) / 8192, by omega⟩
  let q : Fin 8192 := ⟨(t.val / 2 * 1024 + (y 0).val) % 8192, by omega⟩
  have hbq : b.val * 8192 + q.val = t.val / 2 * 1024 + (y 0).val := by
    show (t.val / 2 * 1024 + (y 0).val) / 8192 * 8192 + (t.val / 2 * 1024 + (y 0).val) % 8192 = _
    omega
  refine Eq.trans ?_ (congrArg _ (eq_ix2 _).symm)
  refine Eq.trans ?_ (Cert.Reference4Ideal.Proj.ref_at _ _ _ b q _ (hQ.trans hbq.symm) _).symm
  refine (congrArg _ (eq_ix2 y)).trans ((step_at _ _ _ (y 0) (y 1)).trans ?_)
  exact congrArg₂ (fun a b : EReal => a + b) (h_at m c t (y 0) (y 1) b q _ hbq hE)
    (Finset.sum_congr rfl fun k _ => congrArg₂ (fun a b : EReal => a * b) (a_at m c t (y 0) k b q hbq) (w_at m c t k (y 1) _ hE))

end Cert.Kernel4Ideal.Proj

end
-- ==== Proof.Proj5Value.lean ====
/- The array the residual projection's call (inner size 4096) leaves, against the reference's. -/
module

public import proofs.«01_k».proof.Proof.Gen.Kernel5Ideal.Value
public import proofs.«01_k».proof.Proof.Gen.Reference5Ideal.Read
public import Idealize.ShloMosaic.Lib.Pipeline.ValueKit
public import Idealize.ShloMosaic.Lib.Claim

@[expose] public section

set_option maxRecDepth 16384

noncomputable section

namespace Cert.Reference5Ideal.Proj

open Cert.Reference5Ideal Cert.Reference5Ideal.Gen Cert.Reference5Ideal.Read Idealize.ShloMosaic Idealize.ShloMosaic.TcCoe Idealize.SL.Sem

/-- The reference's result at a row and a column: the activation there plus the row against the weights' column. -/
theorem ref_at (a : FVec Ideal S3x8192x4096 .f32) (w : FVec Ideal S4096x2048 .f32) (h : FVec Ideal S3x8192x2048 .f32)
    (b : Fin 3) (r : Fin 8192) (q : Fin 24576) (hq : q.val = b.val * 8192 + r.val) (d : Fin 2048) :
    val_main_v2 (F := Ideal) a w h (ix2 q d) = h (ix3 b r d) + ∑ k : Fin 4096, a (ix3 b r k) * w (ix2 k d) := by
  have hb : b = ⟨q.val / 8192, by clear hq; omega⟩ := Fin.ext (by show b.val = q.val / 8192; omega)
  have hr : r = ⟨q.val % 8192, by clear hq; omega⟩ := Fin.ext (by show r.val = q.val % 8192; omega)
  rw [hb, hr]
  pointwise [val_main_v0, val_main_v1, val_main_v2]

end Cert.Reference5Ideal.Proj

namespace Cert.Kernel5Ideal.Proj

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- Every window's block index at every grid point. -/
theorem idx : ∀ t : Fin cfg0.N, win0_0.index t = ![t.val / 2, 0] ∧ win0_1.index t = ![0, t.val % 2]
    ∧ win0_2.index t = ![t.val / 2, t.val % 2] ∧ win0_3.index t = ![t.val / 2, t.val % 2] ∧ t.val < 48 :=
  (by decide +kernel : ∀ t : Fin grid0.N, _)

/-- The block a point stores: its block of activations plus its rows against its columns of the weights. -/
theorem step_at (h : FVec Ideal S1024x1024 .f32) (a : FVec Ideal S1024x4096 .bf16) (w : FVec Ideal S4096x1024 .bf16)
    (r d : Fin 1024) : k0_pay1 (F := Ideal) h a w (ix2 r d) = h (ix2 r d) + ∑ k : Fin 4096, a (ix2 r k) * w (ix2 k d) := by
  pointwise [k0_pay1]

/-- The point's block of rows of the projected array. -/
theorem a_at (c : Dev nD) (t : Fin cfg0.N) (r : Fin 1024) (k : Fin 4096) (b : Fin 3) (q : Fin 8192)
    (hq : b.val * 8192 + q.val = t.val / 2 * 1024 + r.val) :
    (iblk m c 0 t : FVec Ideal S1024x4096 .bf16) (ix2 r k) = m ((c : Thread nD τ).loc main_arg0) (ix3 b q k) := by
  blk_point [iblk, idx t]

/-- The point's block of columns of the weights. -/
theorem w_at (c : Dev nD) (t : Fin cfg0.N) (k : Fin 4096) (d : Fin 1024) (e : Fin 2048) (he : e.val = t.val % 2 * 1024 + d.val) :
    (iblk m c 1 t : FVec Ideal S4096x1024 .bf16) (ix2 k d) = m ((c : Thread nD τ).loc main_arg1) (ix2 k e) := by
  blk_point [iblk, idx t]

/-- The point's block of activations. -/
theorem h_at (c : Dev nD) (t : Fin cfg0.N) (r d : Fin 1024) (b : Fin 3) (q : Fin 8192) (e : Fin 2048)
    (hq : b.val * 8192 + q.val = t.val / 2 * 1024 + r.val) (he : e.val = t.val % 2 * 1024 + d.val) :
    (iblk m c 2 t : FVec Ideal S1024x1024 .f32) (ix2 r d) = m ((c : Thread nD τ).loc main_arg2) (ix3 b q e) := by
  blk_point [iblk, idx t]

/-- The array after the run is the reference's term over the projected rows, the weights and the activations. -/
theorem final (c : Dev nD) : (dats m 0 c).arrAt 3 (cfgs 0).N
    = Cert.Reference5Ideal.Read.val_main_v2 (F := Ideal) (m ((c : Thread nD τ).loc main_arg0))
      (m ((c : Thread nD τ).loc main_arg1)) (m ((c : Thread nD τ).loc main_arg2)) := by
  refine (dats m 0 c).arrAt_eq_of_covers 3 _ (by decide +kernel) fun t hf y => ?_
  blk_simp
  rw [after0_3]
  frame_out
  have hQ : ((win0_3.blk t).view.emb y 0).val = t.val / 2 * 1024 + (y 0).val := by blk_simp [idx t]
  have hE : ((win0_3.blk t).view.emb y 1).val = t.val % 2 * 1024 + (y 1).val := by blk_simp [idx t]
  have hQlt : t.val / 2 * 1024 + (y 0).val < 24576 := hQ ▸ ((win0_3.blk t).view.emb y 0).isLt
  let b : Fin 3 := ⟨(t.val / 2 * 1024 + (y 0).val) / 8192, by omega⟩
  let q : Fin 8192 := ⟨(t.val / 2 * 1024 + (y 0).val) % 8192, by omega⟩
  have hbq : b.val * 8192 + q.val = t.val / 2 * 1024 + (y 0).val := by
    show (t.val / 2 * 1024 + (y 0).val) / 8192 * 8192 + (t.val / 2 * 1024 + (y 0).val) % 8192 = _
    omega
  refine Eq.trans ?_ (congrArg _ (eq_ix2 _).symm)
  refine Eq.trans ?_ (Cert.Reference5Ideal.Proj.ref_at _ _ _ b q _ (hQ.trans hbq.symm) _).symm
  refine (congrArg _ (eq_ix2 y)).trans ((step_at _ _ _ (y 0) (y 1)).trans ?_)
  exact congrArg₂ (fun a b : EReal => a + b) (h_at m c t (y 0) (y 1) b q _ hbq hE)
    (Finset.sum_congr rfl fun k _ => congrArg₂ (fun a b : EReal => a * b) (a_at m c t (y 0) k b q hbq) (w_at m c t k (y 1) _ hE))

end Cert.Kernel5Ideal.Proj

end
-- ==== Proof.InRun.lean ====
module

public import proofs.«01_k».proof.Proof.Gen.Kernel6Ideal.Launch
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Pipeline.TableIdle
public import Idealize.ShloMosaic.Lib.Pipeline.ValueKit
public import Idealize.ShloMosaic.Lib.WritesUnit
public import Idealize.ShloMosaic.Lib.Ring
public import Idealize.ShloMosaic.Lib.Tactic
public import Idealize.ShloMosaic.Lib.WordCmp

/-! The body of the input projection, run once on any whole buffers: at a grid row's first point, where it fills its
carried buffer and stores the step sizes and their cumulative decay, and at the row's other points, where it stores
only a block of the product. -/

@[expose] public section

set_option maxRecDepth 16384

noncomputable section

namespace Cert.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F] [Named F]

local notation "𝕄" => MT nD τ sig Unit (Elt F) ℕ (UR sig nD τ) ℕ

/-- A buffer written whole reads back what was written. -/
theorem read_stored {κ : Kind} {sp : Space} {a b : ℕ} {e : EltTy} (v : View sig κ sp ⟨2, ![a, b]⟩ e) (f)
    (inb) (w : (⟨2, ![a, b]⟩ : Shape).Idx → Elt F e) :
    v.read (Elt F) (v.writes (Elt F) f [⟨Rect.unit (s := ⟨2, ![a, b]⟩) ![0, 0] (⟨2, ![a, b]⟩ : Shape).size inb, w⟩]) = w := by
  funext y
  exact View.read_writes_cons_unit_of_mem v f inb w [] y y rfl fun k => by
    fin_cases k <;> exact (Nat.zero_add _).symm

/-- The running sums of the decay, from the step sizes and the exponentials of the decay rates. -/
def sums (dt : FVec F S1024x128 .f32) (a : FVec F S1x128 .f32) : FVec F S1024x128 .f32 :=
  k0_pay1 k0_pay7 (k0_pay11 k0_pay8 (k0_pay9 dt a) k0_pay10)
    (k0_pay16 (Scalar.select (Scalar.cmpi .eq 128#32 0#32) 1#32 128#32) k0_pay12 k0_pay13 k0_pay14 k0_pay15)
    (k0_pay17 (k0_pay6 dt a) (Scalar.select (Scalar.cmpi .eq 128#32 0#32) 1#32 128#32) k0_pay12 k0_pay13 k0_pay14 k0_pay15) 64#32

set_option maxHeartbeats 1000000 in
/-- The first point of a grid row. -/
theorem run_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x2048 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x2048 .bf16) (harg11 : arg11.IsWhole)
    (hc0 : k0_cond1 i = 1#1)
    (x0 : Vec F S1024x2048 .f32) (x1 : Vec F S1x2048 .f32) (x2 : Vec F S2048x2048 .bf16) (x3 : Vec F S2048x128 .bf16)
    (x4 : Vec F S1x128 .f32) (x5 : Vec F S1x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay2 (k0_pay3 x0 x1) x2) ∗ owns (c : Thread nD τ) arg9 fullShare (k0_pay4 (k0_pay3 x0 x1) x3 x4) ∗ owns (c : Thread nD τ) arg10 fullShare (sums (k0_pay4 (k0_pay3 x0 x1) x3 x4) (k0_pay5 x5)) ∗ owns (c : Thread nD τ) arg11 fullShare (k0_pay3 x0 x1)) -∗ K ⟨⟩))
      ⊢ wp frame (wpE (defs₀ (F := F)) Variants.none c none) E (cc0_ssd_in_proj i arg2 harg2 arg3 harg3 arg4 harg4 arg5 harg5 arg6 harg6 arg7 harg7 arg8 harg8 arg9 harg9 arg10 harg10 arg11 harg11) K := by
  simp only [cc0_ssd_in_proj_eq_skeleton]; unfold cc0_ssd_in_proj_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    (try frame_open)
    refine (read_stored _ _ _ _).trans ?_
    (try frame_out)
    first | done | rfl
  isplitl [H7]
  · iexists _; isplitr
    swap; · iexact H7
    ipureintro
    (try frame_open)
    refine (read_stored _ _ _ _).trans ?_
    (try frame_out)
    first | done | rfl
  isplitl [H8]
  · iexists _; isplitr
    swap; · iexact H8
    ipureintro
    (try frame_open)
    refine (read_stored _ _ _ _).trans ?_
    (try frame_out)
    first | done | rfl
  iexists _; isplitr
  swap; · iexact HS0
  ipureintro
  (try frame_open)
  refine (read_stored _ _ _ _).trans ?_
  (try frame_out)
  first | done | rfl

set_option maxHeartbeats 1000000 in
/-- Any other point of a grid row: the carried buffer and the blocks of the other two results are as they were. -/
theorem run_next (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x2048 .bf16) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x2048 .bf16) (harg11 : arg11.IsWhole)
    (hc0 : ¬ k0_cond1 i = 1#1)
    (x0 : Vec F S1024x2048 .f32) (x1 : Vec F S1x2048 .f32) (x2 : Vec F S2048x2048 .bf16) (x3 : Vec F S2048x128 .bf16)
    (x4 : Vec F S1x128 .f32) (x5 : Vec F S1x128 .f32) (y7 y8 : Vec F S1024x128 .f32) (xs : Vec F S1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y7 ∗ owns (c : Thread nD τ) arg10 fullShare y8 ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay2 xs x2) ∗ owns (c : Thread nD τ) arg9 fullShare y7 ∗ owns (c : Thread nD τ) arg10 fullShare y8 ∗ owns (c : Thread nD τ) arg11 fullShare xs) -∗ K ⟨⟩))
      ⊢ wp frame (wpE (defs₀ (F := F)) Variants.none c none) E (cc0_ssd_in_proj i arg2 harg2 arg3 harg3 arg4 harg4 arg5 harg5 arg6 harg6 arg7 harg7 arg8 harg8 arg9 harg9 arg10 harg10 arg11 harg11) K := by
  simp only [cc0_ssd_in_proj_eq_skeleton]; unfold cc0_ssd_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hfs0
  sl_exec (disch := sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    (try frame_open)
    refine (read_stored _ _ _ _).trans ?_
    (try frame_out)
    first | done | rfl
  isplitl [H7]
  · iexists _; isplitr; · ipureintro; exact harg9.read_unread _
    iexact H7
  isplitl [H8]
  · iexists _; isplitr; · ipureintro; exact harg10.read_unread _
    iexact H8
  iexists _; isplitr; · ipureintro; exact harg11.read_unread _
  iexact HS0

end Cert.InProj

end
-- ==== Proof.InFrame.lean ====
module

public import proofs.«01_k».proof.Proof.InRun

/-! The frame of the input projection, and what its three results hold after every point. The step sizes and their
running sums are stored at a grid row's first point and written back at its last; in between nothing is stored, and the
blocks they were computed from do not move, so at every point they are a function of the point's own blocks. -/

@[expose] public section

set_option maxRecDepth 16384

noncomputable section

namespace Cert.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A core's buffers when the pipeline starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host part. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The normalized rows of the point's activations. -/
def rows (c : Dev nD) (t : Fin cfg0.N) : Vec F S1024x2048 .bf16 := k0_pay3 (iblk m c 0 t) (iblk m c 1 t)

/-- The step sizes of the point's activations. -/
def steps (c : Dev nD) (t : Fin cfg0.N) : Vec F S1024x128 .f32 := k0_pay4 (rows m c t) (iblk m c 3 t) (iblk m c 4 t)

/-- Every window's block index at every grid point. -/
theorem idx : ∀ t : Fin cfg0.N, win0_0.index t = ![t.val / 5, 0] ∧ win0_1.index t = ![0, 0]
    ∧ win0_2.index t = ![0, t.val % 5] ∧ win0_3.index t = ![0, 0] ∧ win0_4.index t = ![0, 0] ∧ win0_5.index t = ![0, 0]
    ∧ win0_6.index t = ![t.val / 5, t.val % 5] ∧ win0_7.index t = ![t.val / 5, 0] ∧ win0_8.index t = ![t.val / 5, 0]
    ∧ t.val < 120 :=
  (by decide +kernel : ∀ t : Fin grid0.N, _)

section Kept
variable (c : Dev nD) (n : ℕ) (h : n + 1 < cfg0.N) (hn : ¬(n + 1) % 5 = 0)
include hn

/-- Within a row of the grid only the weights' block moves. -/
theorem kept_0 : iblk m c 0 ⟨n + 1, h⟩ = iblk m c 0 ⟨n, Nat.lt_of_succ_lt h⟩ := by
  funext y
  have := idx ⟨n + 1, h⟩
  have := idx ⟨n, Nat.lt_of_succ_lt h⟩
  blk_ext [iblk, idx ⟨n + 1, h⟩, idx ⟨n, Nat.lt_of_succ_lt h⟩]
theorem kept_1 : iblk m c 1 ⟨n + 1, h⟩ = iblk m c 1 ⟨n, Nat.lt_of_succ_lt h⟩ := by
  funext y; blk_ext [iblk, idx ⟨n + 1, h⟩, idx ⟨n, Nat.lt_of_succ_lt h⟩]
theorem kept_3 : iblk m c 3 ⟨n + 1, h⟩ = iblk m c 3 ⟨n, Nat.lt_of_succ_lt h⟩ := by
  funext y; blk_ext [iblk, idx ⟨n + 1, h⟩, idx ⟨n, Nat.lt_of_succ_lt h⟩]
theorem kept_4 : iblk m c 4 ⟨n + 1, h⟩ = iblk m c 4 ⟨n, Nat.lt_of_succ_lt h⟩ := by
  funext y; blk_ext [iblk, idx ⟨n + 1, h⟩, idx ⟨n, Nat.lt_of_succ_lt h⟩]
theorem kept_5 : iblk m c 5 ⟨n + 1, h⟩ = iblk m c 5 ⟨n, Nat.lt_of_succ_lt h⟩ := by
  funext y; blk_ext [iblk, idx ⟨n + 1, h⟩, idx ⟨n, Nat.lt_of_succ_lt h⟩]

theorem rows_kept : rows m c ⟨n + 1, h⟩ = rows m c ⟨n, Nat.lt_of_succ_lt h⟩ := by
  unfold rows; rw [kept_0 m c n h hn, kept_1 m c n h hn]
theorem steps_kept : steps m c ⟨n + 1, h⟩ = steps m c ⟨n, Nat.lt_of_succ_lt h⟩ := by
  unfold steps; rw [rows_kept m c n h hn, kept_3 m c n h hn, kept_4 m c n h hn]
theorem sums_kept : sums (steps m c ⟨n + 1, h⟩) (k0_pay5 (iblk m c 5 ⟨n + 1, h⟩))
    = sums (steps m c ⟨n, Nat.lt_of_succ_lt h⟩) (k0_pay5 (iblk m c 5 ⟨n, Nat.lt_of_succ_lt h⟩)) := by
  rw [steps_kept m c n h hn, kept_5 m c n h hn]

end Kept

/-- Between points the carried buffer holds the rows of the point before. -/
def PhiS (c : Dev nD) : (n : ℕ) → n ≤ cfg0.N → sProp 𝕄
  | 0, _ => Pipeline.ΦA spec0 c
  | n + 1, hn => iprop(owns (c : Thread nD τ) (Memref.whole cc0_scratch0) fullShare (rows m c ⟨n, hn⟩) ∗ (∃ r, prngReg c r))

theorem PhiA_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- What every window's buffer holds after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay2 (rows m c t) (iblk m c 2 t)
    | ⟨7, _⟩ => steps m c t
    | ⟨8, _⟩ => sums (steps m c t) (k0_pay5 (iblk m c 5 t))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_before (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem after0_6 (c : Dev nD) (t : Fin cfg0.N) : (dats m 0 c).after 6 t = k0_pay2 (rows m c t) (iblk m c 2 t) := by dsimp only [dats]
theorem after0_7 (c : Dev nD) (t : Fin cfg0.N) : (dats m 0 c).after 7 t = steps m c t := by dsimp only [dats]
theorem after0_8 (c : Dev nD) (t : Fin cfg0.N) : (dats m 0 c).after 8 t = sums (steps m c t) (k0_pay5 (iblk m c 5 t)) := by dsimp only [dats]

/-- The body fills at the first point of every row of five. -/
theorem first_iff : ∀ t : Fin cfg0.N, k0_cond1 (grid0.coords t) = 1#1 ↔ t.val % 5 = 0 :=
  (by decide +kernel : ∀ t : Fin grid0.N, k0_cond1 (grid0.coords t) = 1#1 ↔ t.val % 5 = 0)

/-- Where nothing has been stored since the last write-back: at the rows' first points. -/
def freshTab (n : ℕ) : Bool := n % 5 == 0

theorem idle_7 : ∀ t : Fin cfg0.N, ¬ t.val % 5 = 0 → cfg0.idle 7 (grid0.coords t) = true :=
  (by decide +kernel : ∀ t : Fin grid0.N, ¬ t.val % 5 = 0 → cfg0.idle 7 (grid0.coords t) = true)
theorem live_7 : ∀ t : Fin cfg0.N, t.val % 5 = 0 → cfg0.idle 7 (grid0.coords t) = false :=
  (by decide +kernel : ∀ t : Fin grid0.N, t.val % 5 = 0 → cfg0.idle 7 (grid0.coords t) = false)
theorem fresh_step_7 : ∀ t : Fin cfg0.N,
    freshTab (t.val + 1) = ((cfg0.win 7).flush t || (cfg0.idle 7 (cfg0.grid.coords t) && freshTab t.val)) := by decide +kernel
theorem fresh_7 (t : Fin cfg0.N) : cfg0.fresh 7 t.val = freshTab t.val :=
  Pipeline.Cfg.fresh_tab cfg0 7 freshTab rfl fresh_step_7 t.val (Nat.le_of_lt t.isLt)
/-- Away from a row's first point the block still holds what that point stored. -/
theorem held_7 (c : Dev nD) (t : Fin cfg0.N) (h0 : ¬ t.val % 5 = 0) (d) :
    (dats m 0 c).before 7 t d = (dats m 0 c).after 7 t := by
  have carry : ∀ (t : Fin cfg0.N) (_ : t.val ≠ 0), cfg0.idle 7 (grid0.coords t) = true → cfg0.fresh 7 t.val = false →
      (dats m 0 c).after 7 t = (dats m 0 c).after 7 ⟨t.val - 1, by omega⟩ := by
    intro t hz hi _
    have h5 : ¬ t.val % 5 = 0 := fun h => by rw [live_7 t h] at hi; exact Bool.false_ne_true hi
    obtain ⟨n, hn⟩ := t
    cases n with
    | zero => exact absurd rfl hz
    | succ n => rw [after0_7, after0_7]; exact steps_kept m c n hn h5
  have hf : cfg0.fresh 7 t.val = false := by rw [fresh_7]; simpa [freshTab] using h0
  rw [Dat.before_out_traj _ 7 rfl (fun _ _ => rfl) carry t.val t rfl d, if_neg (by rw [hf]; exact Bool.false_ne_true)]
  exact (carry t (fun h => h0 (by rw [h])) (idle_7 t h0) hf).symm
/-- So handing that block back is all the point owes. -/
theorem leave_7 (c : Dev nD) (t : Fin cfg0.N) (h0 : ¬ t.val % 5 = 0) :
    owns (c : Thread nD τ) (win0_7.stage (cfg0.slots t 7)) fullShare ((dats m 0 c).after 7 t) ⊢ ((dats m 0 c).leavesExact 7 t : sProp 𝕄) := by
  unfold Dat.leavesExact
  rw [show cfg0.idle 7 (cfg0.grid.coords t) = true from idle_7 t h0]
  cases (cfg0.win 7).flush t
  · iintro H; iexists (dats m 0 c).after 7 t; rw [held_7 m c t h0]; iexact H
  · exact .rfl

theorem idle_8 : ∀ t : Fin cfg0.N, ¬ t.val % 5 = 0 → cfg0.idle 8 (grid0.coords t) = true :=
  (by decide +kernel : ∀ t : Fin grid0.N, ¬ t.val % 5 = 0 → cfg0.idle 8 (grid0.coords t) = true)
theorem live_8 : ∀ t : Fin cfg0.N, t.val % 5 = 0 → cfg0.idle 8 (grid0.coords t) = false :=
  (by decide +kernel : ∀ t : Fin grid0.N, t.val % 5 = 0 → cfg0.idle 8 (grid0.coords t) = false)
theorem fresh_step_8 : ∀ t : Fin cfg0.N,
    freshTab (t.val + 1) = ((cfg0.win 8).flush t || (cfg0.idle 8 (cfg0.grid.coords t) && freshTab t.val)) := by decide +kernel
theorem fresh_8 (t : Fin cfg0.N) : cfg0.fresh 8 t.val = freshTab t.val :=
  Pipeline.Cfg.fresh_tab cfg0 8 freshTab rfl fresh_step_8 t.val (Nat.le_of_lt t.isLt)
/-- Away from a row's first point the block still holds what that point stored. -/
theorem held_8 (c : Dev nD) (t : Fin cfg0.N) (h0 : ¬ t.val % 5 = 0) (d) :
    (dats m 0 c).before 8 t d = (dats m 0 c).after 8 t := by
  have carry : ∀ (t : Fin cfg0.N) (_ : t.val ≠ 0), cfg0.idle 8 (grid0.coords t) = true → cfg0.fresh 8 t.val = false →
      (dats m 0 c).after 8 t = (dats m 0 c).after 8 ⟨t.val - 1, by omega⟩ := by
    intro t hz hi _
    have h5 : ¬ t.val % 5 = 0 := fun h => by rw [live_8 t h] at hi; exact Bool.false_ne_true hi
    obtain ⟨n, hn⟩ := t
    cases n with
    | zero => exact absurd rfl hz
    | succ n => rw [after0_8, after0_8]; exact sums_kept m c n hn h5
  have hf : cfg0.fresh 8 t.val = false := by rw [fresh_8]; simpa [freshTab] using h0
  rw [Dat.before_out_traj _ 8 rfl (fun _ _ => rfl) carry t.val t rfl d, if_neg (by rw [hf]; exact Bool.false_ne_true)]
  exact (carry t (fun h => h0 (by rw [h])) (idle_8 t h0) hf).symm
/-- So handing that block back is all the point owes. -/
theorem leave_8 (c : Dev nD) (t : Fin cfg0.N) (h0 : ¬ t.val % 5 = 0) :
    owns (c : Thread nD τ) (win0_8.stage (cfg0.slots t 8)) fullShare ((dats m 0 c).after 8 t) ⊢ ((dats m 0 c).leavesExact 8 t : sProp 𝕄) := by
  unfold Dat.leavesExact
  rw [show cfg0.idle 8 (cfg0.grid.coords t) = true from idle_8 t h0]
  cases (cfg0.win 8).flush t
  · iintro H; iexists (dats m 0 c).after 8 t; rw [held_8 m c t h0]; iexact H
  · exact .rfl

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- Before a row's first point the carried buffer holds anything. -/
theorem phi_any (c : Dev nD) (n : ℕ) (h : n ≤ cfg0.N) :
    PhiS m c n h ⊢ iprop((∃ d, owns (c : Thread nD τ) (Memref.whole cc0_scratch0) fullShare d) ∗ (∃ r, prngReg c r)) := by
  cases n with
  | zero => exact Entails.of_eq (PhiA_eq c)
  | succ n =>
    unfold PhiS
    iintro ⟨H, Hg⟩
    isplitl [H]; · iexists _; iexact H
    iexact Hg

/-- Before any other point it holds the point's rows. -/
theorem phi_rows (c : Dev nD) (t : Fin cfg0.N) (h0 : ¬ t.val % 5 = 0) :
    PhiS m c t.val (Nat.le_of_lt t.isLt) = iprop(owns (c : Thread nD τ) (Memref.whole cc0_scratch0) fullShare (rows m c t) ∗ (∃ r, prngReg c r)) := by
  obtain ⟨n, hn⟩ := t
  cases n with
  | zero => exact absurd rfl h0
  | succ n => rw [rows_kept m c n hn h0]; rfl

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl, Phi_before,
    show (dats m 0 c).Φ t.succ = iprop(owns (c : Thread nD τ) (Memref.whole cc0_scratch0) fullShare (rows m c t) ∗ (∃ r, prngReg c r)) from rfl]
  rw [show (dats m 0 c).leavesExact 0 t = owns (c : Thread nD τ) (win0_0.stage (cfg0.slots t 0)) fullShare ((dats m 0 c).after 0 t) from rfl, after0_0]
  rw [show (dats m 0 c).leavesExact 1 t = owns (c : Thread nD τ) (win0_1.stage (cfg0.slots t 1)) fullShare ((dats m 0 c).after 1 t) from rfl, after0_1]
  rw [show (dats m 0 c).leavesExact 2 t = owns (c : Thread nD τ) (win0_2.stage (cfg0.slots t 2)) fullShare ((dats m 0 c).after 2 t) from rfl, after0_2]
  rw [show (dats m 0 c).leavesExact 3 t = owns (c : Thread nD τ) (win0_3.stage (cfg0.slots t 3)) fullShare ((dats m 0 c).after 3 t) from rfl, after0_3]
  rw [show (dats m 0 c).leavesExact 4 t = owns (c : Thread nD τ) (win0_4.stage (cfg0.slots t 4)) fullShare ((dats m 0 c).after 4 t) from rfl, after0_4]
  rw [show (dats m 0 c).leavesExact 5 t = owns (c : Thread nD τ) (win0_5.stage (cfg0.slots t 5)) fullShare ((dats m 0 c).after 5 t) from rfl, after0_5]
  rw [show (dats m 0 c).leavesExact 6 t = owns (c : Thread nD τ) (win0_6.stage (cfg0.slots t 6)) fullShare ((dats m 0 c).after 6 t) from rfl, after0_6]
  by_cases h0 : t.val % 5 = 0
  · rw [show (dats m 0 c).leavesExact 7 t = owns (c : Thread nD τ) (win0_7.stage (cfg0.slots t 7)) fullShare ((dats m 0 c).after 7 t) from by
        unfold Dat.leavesExact; rw [show cfg0.idle 7 (cfg0.grid.coords t) = false from live_7 t h0], after0_7,
      show (dats m 0 c).leavesExact 8 t = owns (c : Thread nD τ) (win0_8.stage (cfg0.slots t 8)) fullShare ((dats m 0 c).after 8 t) from by
        unfold Dat.leavesExact; rw [show cfg0.idle 8 (cfg0.grid.coords t) = false from live_8 t h0], after0_8]
    refine (sep_mono (phi_any m c _ _) .rfl).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid0.coords t) _ _ _ _ _ _ _ _ _ _ _ _ _ _ _ _ _ _ _ _ ((first_iff t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [phi_rows m c t h0]
    simp only [held_7 m c t h0, held_8 m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_next c (grid0.coords t) _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leave_7 m c t h0); iexact H7
    iapply (leave_8 m c t h0); iexact H8

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  exact phi_any m c _ _

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: every array ends as the windows' contents after the points say. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main_quiescent m ρ)

end Cert.InProj

end
-- ==== Proof.InScan.lean ====
/- Running sums inside blocks of 128 rows, by doubling: a sum over a window, and the step that doubles the window. -/
module

public import proofs.«01_k».proof.Proof.Gen.Kernel6Ideal.Skeleton
public import Idealize.ShloMosaic.Lib.Pipeline.ValueKit

@[expose] public section

set_option maxRecDepth 16384

noncomputable section

namespace Cert.InScan

open Cert.Kernel6Ideal Cert.Kernel6Ideal.Gen Idealize.ShloMosaic Idealize.ShloMosaic.TcCoe Idealize.SL.Sem

/-- The sum of the next `n` rows from row `r` on, as far as they lie in the row's own block of 128. -/
def back (d : ℕ → EReal) (n r : ℕ) : EReal := ∑ j ∈ Finset.range n, if r % 128 + j < 128 then d (r + j) else 0

/-- The sum of the last `n` rows up to row `r`, as far as they lie in the row's own block of 128. -/
def fwd (d : ℕ → EReal) (n r : ℕ) : EReal := ∑ j ∈ Finset.range n, if j ≤ r % 128 then d (r - j) else 0

theorem back_one (d : ℕ → EReal) (r : ℕ) : back d 1 r = d r := by
  have : r % 128 < 128 := Nat.mod_lt _ (by decide)
  simp [back, this]

theorem fwd_one (d : ℕ → EReal) (r : ℕ) : fwd d 1 r = d r := by
  simp [fwd]

/-- Two windows that follow one another are one window of twice the length. -/
theorem back_double (d : ℕ → EReal) (n r : ℕ) :
    back d n r + (if r % 128 + n < 128 then back d n (r + n) else 0) = back d (n + n) r := by
  unfold back
  rw [Finset.sum_range_add]
  congr 1
  by_cases h : r % 128 + n < 128
  · rw [if_pos h]
    refine Finset.sum_congr rfl fun j _ => ?_
    have e : (r + n) % 128 = r % 128 + n := by omega
    rw [e, Nat.add_assoc, Nat.add_assoc]
  · rw [if_neg h]
    exact (Finset.sum_eq_zero fun j _ => if_neg (by omega)).symm

theorem fwd_double (d : ℕ → EReal) (n r : ℕ) :
    fwd d n r + (if n ≤ r % 128 then fwd d n (r - n) else 0) = fwd d (n + n) r := by
  unfold fwd
  rw [Finset.sum_range_add]
  congr 1
  by_cases h : n ≤ r % 128
  · rw [if_pos h]
    refine Finset.sum_congr rfl fun j _ => ?_
    have e : (r - n) % 128 = r % 128 - n := by omega
    rw [e, Nat.sub_sub]
    exact if_congr (by omega) rfl rfl
  · rw [if_neg h]
    exact (Finset.sum_eq_zero fun j _ => if_neg (by omega)).symm

/-- One step as the kernel writes it: a block plus its rows turned round by some rows, where a mask is set. -/
def turn (x : FVec Ideal S1024x128 .f32) (M : IVec S1024x128 1) (s : BitVec 32) : FVec Ideal S1024x128 .f32 :=
  addf x (select M (dynamicRotate 0 s none x rotates_S1024x128_d0)
    (broadcast S1024x128 (Scalar.ofBits (F := Ideal) .f32 0x00000000#32)))

theorem turn_at (x : FVec Ideal S1024x128 .f32) (M : IVec S1024x128 1) (s : BitVec 32) (r : Fin 1024) (c : Fin 128) :
    turn x M s (ix2 r c) = x (ix2 r c) + if M (ix2 r c) = 1#1 then
      x (ix2 ⟨(r.val + 1024 - s.toNat % 1024) % 1024, Nat.mod_lt _ (by decide)⟩ c) else 0 := by
  unfold turn
  pointwise
  rfl

/-- The step doubles a window that looks forward: rows turned back by `n`, where `n` more rows lie in the block. -/
theorem back_turn (d : Fin 128 → ℕ → EReal) (n : ℕ) (x : FVec Ideal S1024x128 .f32)
    (hx : ∀ r c, x (ix2 r c) = back (d c) n r.val) (M : IVec S1024x128 1) (s : BitVec 32) (hs : s.toNat = 1024 - n)
    (hn : 0 < n ∧ n ≤ 64) (hM : ∀ (r : Fin 1024) (c : Fin 128), M (ix2 r c) = 1#1 ↔ r.val % 128 + n < 128)
    (r : Fin 1024) (c : Fin 128) : turn x M s (ix2 r c) = back (d c) (n + n) r.val := by
  rw [turn_at, ← back_double, hx r c]
  refine congrArg (back (d c) n r.val + ·) (if_ctx_congr (hM r c) (fun h => ?_) (fun _ => rfl))
  rw [hx]
  refine congrArg (back (d c) n) ?_
  show (r.val + 1024 - s.toNat % 1024) % 1024 = r.val + n
  have := r.isLt
  rw [hs]
  omega

/-- The step doubles a window that looks back: rows turned on by `n`, where `n` rows lie before in the block. -/
theorem fwd_turn (d : Fin 128 → ℕ → EReal) (n : ℕ) (x : FVec Ideal S1024x128 .f32)
    (hx : ∀ r c, x (ix2 r c) = fwd (d c) n r.val) (M : IVec S1024x128 1) (s : BitVec 32) (hs : s.toNat = n)
    (hn : 0 < n ∧ n ≤ 64) (hM : ∀ (r : Fin 1024) (c : Fin 128), M (ix2 r c) = 1#1 ↔ n ≤ r.val % 128)
    (r : Fin 1024) (c : Fin 128) : turn x M s (ix2 r c) = fwd (d c) (n + n) r.val := by
  rw [turn_at, ← fwd_double, hx r c]
  refine congrArg (fwd (d c) n r.val + ·) (if_ctx_congr (hM r c) (fun h => ?_) (fun _ => rfl))
  rw [hx]
  refine congrArg (fwd (d c) n) ?_
  show (r.val + 1024 - s.toNat % 1024) % 1024 = r.val - n
  have := r.isLt
  rw [hs]
  omega

/-- A row's position in its block of 128, as the kernel's words hold it. -/
theorem pos_at (r : Fin 1024) (c : Fin 128) : k0_pay8 (ix2 r c) = BitVec.ofNat 32 (r.val % 128) := by
  pointwise [k0_pay8]
  revert r
  decide +kernel

/-- The word of the position the forward sum's masks compare. -/
def posF : IVec S1024x128 32 := k0_pay16 (Scalar.select (Scalar.cmpi .eq 128#32 0#32) 1#32 128#32) k0_pay12 k0_pay13 k0_pay14 k0_pay15

theorem posF_at (r : Fin 1024) (c : Fin 128) : posF (ix2 r c) = BitVec.ofNat 32 (r.val % 128) := by
  pointwise [posF, k0_pay16, k0_pay12, k0_pay13, k0_pay14, k0_pay15]
  revert r
  decide +kernel

/-- Words of positions compare as the positions do. -/
theorem below_word (k : Fin 256) : ∀ p : Fin 128, (IntOp.cmpi .slt (BitVec.ofNat 32 p.val) (BitVec.ofNat 32 k.val) = 1#1) ↔ p.val < k.val := by
  revert k; decide +kernel

theorem above_word (k : Fin 256) : ∀ p : Fin 128, (IntOp.cmpi .sge (BitVec.ofNat 32 p.val) (BitVec.ofNat 32 k.val) = 1#1) ↔ k.val ≤ p.val := by
  revert k; decide +kernel

theorem below (k : Fin 256) (n : ℕ) (hn : k.val + n = 128) (r : Fin 1024) (c : Fin 128) :
    cmpi .slt k0_pay8 (broadcast S1024x128 (BitVec.ofNat 32 k.val)) (ix2 r c) = 1#1 ↔ r.val % 128 + n < 128 := by
  refine Iff.trans (Eq.to_iff (congrArg (fun w => IntOp.cmpi .slt w (BitVec.ofNat 32 k.val) = 1#1) (pos_at r c))) ?_
  refine (below_word k ⟨r.val % 128, Nat.mod_lt _ (by decide)⟩).trans ?_
  show r.val % 128 < k.val ↔ _
  omega

theorem above (k : Fin 256) (r : Fin 1024) (c : Fin 128) :
    cmpi .sge posF (broadcast S1024x128 (BitVec.ofNat 32 k.val)) (ix2 r c) = 1#1 ↔ k.val ≤ r.val % 128 := by
  refine Iff.trans (Eq.to_iff (congrArg (fun w => IntOp.cmpi .sge w (BitVec.ofNat 32 k.val) = 1#1) (posF_at r c))) ?_
  exact above_word k ⟨r.val % 128, Nat.mod_lt _ (by decide)⟩

/-- A column of a block by row number, zero past the block's end. -/
def col (x : FVec Ideal S1024x128 .f32) (c : Fin 128) (n : ℕ) : EReal := if h : n < 1024 then x (ix2 ⟨n, h⟩ c) else 0

theorem col_at (x : FVec Ideal S1024x128 .f32) (c : Fin 128) (r : Fin 1024) : col x c r.val = x (ix2 r c) := dif_pos r.isLt

/-- The kernel's sum towards the block's end, over all seven steps. -/
theorem back_sum (dt : FVec Ideal S1024x128 .f32) (a : FVec Ideal S1x128 .f32) (r : Fin 1024) (c : Fin 128) :
    k0_pay11 (F := Ideal) k0_pay8 (k0_pay9 dt a) k0_pay10 (ix2 r c) = back (col (k0_pay6 dt a) c) 128 r.val := by
  have h1 := back_turn (col (k0_pay6 dt a)) 1 (k0_pay6 dt a) (fun r c => by rw [back_one, col_at])
    _ 1023#32 rfl (by decide) (below 127 1 rfl)
  have h2 := back_turn _ _ _ h1 _ 1022#32 rfl (by decide) (below 126 2 rfl)
  have h4 := back_turn _ _ _ h2 _ 1020#32 rfl (by decide) (below 124 4 rfl)
  have h8 := back_turn _ _ _ h4 _ 1016#32 rfl (by decide) (below 120 8 rfl)
  have h16 := back_turn _ _ _ h8 _ 1008#32 rfl (by decide) (below 112 16 rfl)
  have h32 := back_turn _ _ _ h16 _ 992#32 rfl (by decide) (below 96 32 rfl)
  exact back_turn _ _ _ h32 _ 960#32 rfl (by decide) (below 64 64 rfl) r c

/-- The kernel's sum from the block's start, over the first six steps. -/
theorem fwd_sum (da : FVec Ideal S1024x128 .f32) (r : Fin 1024) (c : Fin 128) :
    k0_pay17 (F := Ideal) da (Scalar.select (Scalar.cmpi .eq 128#32 0#32) 1#32 128#32) k0_pay12 k0_pay13 k0_pay14 k0_pay15
      (ix2 r c) = fwd (col da c) 64 r.val := by
  have h1 := fwd_turn (col da) 1 da (fun r c => by rw [fwd_one, col_at]) _ 1#32 rfl (by decide) (above 1)
  have h2 := fwd_turn _ _ _ h1 _ 2#32 rfl (by decide) (above 2)
  have h4 := fwd_turn _ _ _ h2 _ 4#32 rfl (by decide) (above 4)
  have h8 := fwd_turn _ _ _ h4 _ 8#32 rfl (by decide) (above 8)
  have h16 := fwd_turn _ _ _ h8 _ 16#32 rfl (by decide) (above 16)
  exact fwd_turn _ _ _ h16 _ 32#32 rfl (by decide) (above 32) r c

/-- The last step, and the choice between the two sums by the column. -/
theorem pick_at (bk w : FVec Ideal S1024x128 .f32) (r : Fin 1024) (c : Fin 128) :
    k0_pay1 (F := Ideal) k0_pay7 bk posF w 64#32 (ix2 r c)
      = if 64 ≤ c.val then bk (ix2 r c) else turn w (cmpi .sge posF (broadcast S1024x128 64#32)) 64#32 (ix2 r c) := by
  have hc : k0_pay7 (ix2 r c) = 1#1 ↔ 64 ≤ c.val := by
    pointwise [k0_pay7]
    revert c
    decide +kernel
  show (if k0_pay7 (ix2 r c) = 1#1 then bk (ix2 r c) else turn w _ 64#32 (ix2 r c)) = _
  exact if_congr hc rfl rfl

end Cert.InScan

end
-- ==== Proof.InRef.lean ====
/- What the reference of the input projection computes, read at an index: the projected row, the step sizes, and the
   running sums of the decays inside each block of 128 rows. -/
module

public import proofs.«01_k».proof.Proof.Gen.Reference6Ideal.Read
public import proofs.«01_k».proof.Proof.MlpMath
public import proofs.«01_k».proof.Proof.InScan
public import Idealize.ShloMosaic.Lib.Pipeline.ValueKit

@[expose] public section

set_option maxRecDepth 16384

noncomputable section

namespace Cert.InMath

open Cert.MlpMath Idealize.ShloMosaic

/-- A row's normalized entries times the gain, against a column of weights. -/
def project {n : ℕ} (x g w : Fin n → EReal) : EReal := ∑ l, x l * rowScale x * g l * w l

/-- The smooth cut-off: the logarithm of one plus the exponential, written around the greater of the two. -/
def softplus (z : EReal) : EReal := max z 0 + Ideal.log1p (Ideal.exp (-(max z (-z))))

end Cert.InMath

namespace Cert.Reference6Ideal.InProj

open Cert.MlpMath Cert.InMath Cert.InScan Cert.Reference6Ideal Cert.Reference6Ideal.Gen Cert.Reference6Ideal.Read
open Idealize.ShloMosaic Idealize.ShloMosaic.TcCoe Idealize.SL.Sem

/-- A left fold of sums is the first value plus the sum. -/
theorem foldl_sum {ι : Type} (f : ι → EReal) : ∀ (l : List ι) (v : EReal), l.foldl (fun r n => r + f n) v = v + (l.map f).sum
  | [], v => by simp
  | a :: l, v => by rw [List.foldl_cons, foldl_sum f l, List.map_cons, List.sum_cons, add_assoc]

/-- A window that spans one axis only, entry by entry. -/
def line : (⟨4, ![1, 1, 128, 1]⟩ : Shape).Idx ≃ Fin 128 where
  toFun i := i 2
  invFun j := ix4 (0 : Fin 1) (0 : Fin 1) j (0 : Fin 1)
  left_inv i := by
    refine ((eq_ix4 i).trans ?_).symm
    have h0 : i 0 = (0 : Fin 1) := Subsingleton.elim (α := Fin 1) _ _
    have h1 : i 1 = (0 : Fin 1) := Subsingleton.elim (α := Fin 1) _ _
    have h3 : i 3 = (0 : Fin 1) := Subsingleton.elim (α := Fin 1) _ _
    rw [h0, h1, h3]
  right_inv j := rfl

/-- A host window sum at an index: the first value plus, over the window's places, the entry there or the filling. -/
theorem window_sum {s t u : Shape} (window strides lo hi : Fin s.rank → ℕ) (x : FVec Ideal s .f32) (v : FVec Ideal u .f32)
    (h : s.ReduceWindows window strides lo hi t) (hu : 0 < u.numel) (j : t.Idx) :
    Host.reduceWindowAdd window strides lo hi x v h hu j = v (Shape.Idx.first hu)
      + ∑ k : (⟨s.rank, window⟩ : Shape).Idx,
        if hin : ∀ a, lo a ≤ (j (a.cast h.1.symm)).val * strides a + (k a).val
          ∧ (j (a.cast h.1.symm)).val * strides a + (k a).val - lo a < s.size a
        then x (fun a => ⟨_, (hin a).2⟩) else v (Shape.Idx.first hu) := by
  unfold Host.reduceWindowAdd
  rw [Ideal.hostReduceWindowAdd_def]
  unfold Ideal.hostReduceWindowAdd Host.reduceWindow
  refine (foldl_sum _ (List.finRange _) (v (Shape.Idx.first hu))).trans ?_
  rw [← Fin.sum_univ_def]
  refine congrArg (v (Shape.Idx.first hu) + ·) ((Finset.sum_congr rfl fun k _ => ?_).trans
    (Equiv.sum_comp (⟨s.rank, window⟩ : Shape).rowMajor.symm fun k =>
      if hin : ∀ a, lo a ≤ (j (a.cast h.1.symm)).val * strides a + (k a).val
        ∧ (j (a.cast h.1.symm)).val * strides a + (k a).val - lo a < s.size a
      then x (fun a => ⟨_, (hin a).2⟩) else v (Shape.Idx.first hu)))
  congr

/-- A line of a block by position, zero past its end. -/
def lineOf (x : FVec Ideal S3x64x128x64 .f32) (b : Fin 3) (n : Fin 64) (q : Fin 64) (p : ℕ) : EReal :=
  if h : p < 128 then x (ix4 b n ⟨p, h⟩ q) else 0

/-- The running sum along the block, read at a position: the sum of the entries up to it. -/
theorem cumsum_at (x : FVec Ideal S3x64x128x64 .f32) (v : FVec Ideal S_ .f32) (hv : v (Shape.Idx.first h_S_) = 0)
    (b : Fin 3) (n : Fin 64) (p : Fin 128) (q : Fin 64) :
    Host.reduceWindowAdd ![1, 1, 128, 1] ![1, 1, 1, 1] ![0, 0, 127, 0] ![0, 0, 0, 0] x v
      reduceWindows_S3x64x128x64_S3x64x128x64_w1s1p0_0_w1s1p0_0_w128s1p127_0_w1s1p0_0 h_S_ (ix4 b n p q)
      = ∑ j ∈ Finset.range 128, if j ≤ p.val then lineOf x b n q (p.val - j) else 0 := by
  rw [window_sum, hv, zero_add]
  refine (Equiv.sum_comp line.symm _).symm.trans ?_
  refine (Equiv.sum_comp Fin.revPerm _).symm.trans ?_
  rw [Finset.sum_range]
  refine Finset.sum_congr rfl fun k _ => ?_
  have hk := k.isLt
  have hp := p.isLt
  by_cases h : k.val ≤ p.val
  · rw [if_pos h]
    unfold lineOf
    rw [dif_pos (show p.val - k.val < 128 by omega)]
    refine (dif_pos (fun a => ?_)).trans (congrArg x (funext fun a => Fin.ext ?_))
    · match a with
      | ⟨0, _⟩ => exact ⟨Nat.zero_le _, by show b.val * 1 + 0 - 0 < 3; omega⟩
      | ⟨1, _⟩ => exact ⟨Nat.zero_le _, by show n.val * 1 + 0 - 0 < 64; omega⟩
      | ⟨2, _⟩ => exact ⟨by show 127 ≤ p.val * 1 + (128 - (k.val + 1)); omega, by show p.val * 1 + (128 - (k.val + 1)) - 127 < 128; omega⟩
      | ⟨3, _⟩ => exact ⟨Nat.zero_le _, by show q.val * 1 + 0 - 0 < 64; omega⟩
    · match a with
      | ⟨0, _⟩ => show b.val * 1 + 0 - 0 = b.val; omega
      | ⟨1, _⟩ => show n.val * 1 + 0 - 0 = n.val; omega
      | ⟨2, _⟩ => show p.val * 1 + (128 - (k.val + 1)) - 127 = p.val - k.val; omega
      | ⟨3, _⟩ => show q.val * 1 + 0 - 0 = q.val; omega
  · rw [if_neg h]
    refine dif_neg fun hin => ?_
    have h2 : 127 ≤ p.val * 1 + (128 - (k.val + 1)) := (hin 2).1
    omega

variable (x : FVec Ideal S3x8192x2048 .f32) (g : FVec Ideal S2048 .f32) (w : FVec Ideal S2048x10368 .f32)
  (bias a : FVec Ideal S2x64 .f32)

/-- The step size before the cut-off. -/
theorem before_at (b : Fin 3) (s : Fin 8192) (i : Fin 2) (h : Fin 64) :
    val_main_v18 (F := Ideal) x g w bias (ix4 b s i h) = project (fun l => x (ix3 b s l)) (fun l => g (ix1 l))
      (fun l => w (ix2 l ⟨10240 + (i.val * 64 + h.val), by omega⟩)) + bias (ix2 i h) := by
  pointwise [val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_v18, val_main_cst, val_main_cst_0, val_main_cst_1, rowScale, project]

/-- The step size: the cut-off of that. -/
theorem step_at (b : Fin 3) (s : Fin 8192) (i : Fin 2) (h : Fin 64) :
    val_main_v19 (F := Ideal) x g w bias (ix4 b s i h) = softplus (project (fun l => x (ix3 b s l)) (fun l => g (ix1 l))
      (fun l => w (ix2 l ⟨10240 + (i.val * 64 + h.val), by omega⟩)) + bias (ix2 i h)) := by
  rw [← before_at]
  unfold val_main_v19 val_main_call0_v11 val_main_call0_v4 val_main_call0_v6 val_main_call0_v10 val_main_call0_v9
    val_main_call0_v8 val_main_call0_v7 val_main_call0_v3 val_main_call0_v1
  generalize val_main_v18 (F := Ideal) x g w bias = z
  pointwise [val_main_call0_v0, val_main_call0_v2, val_main_call0_v5, val_main_call0_cst]
  exact if_neg fun h => h rfl

/-- The first result: the projected row. -/
theorem zxbc_at (b : Fin 3) (s : Fin 8192) (q : Fin 24576) (hq : q.val = b.val * 8192 + s.val) (d : Fin 10240) :
    val_main_v52 (F := Ideal) x g w (ix2 q d) = project (fun l => x (ix3 b s l)) (fun l => g (ix1 l))
      (fun l => w (ix2 l ⟨d.val, by omega⟩)) := by
  have hb : b = ⟨q.val / 8192, by clear hq; omega⟩ := Fin.ext (by show b.val = q.val / 8192; omega)
  have hr : s = ⟨q.val % 8192, by clear hq; omega⟩ := Fin.ext (by show s.val = q.val % 8192; omega)
  rw [hb, hr]
  pointwise [val_main_v0, val_main_v1, val_main_v2, val_main_v3, val_main_v4, val_main_v5, val_main_v6, val_main_v7,
    val_main_v8, val_main_v9, val_main_v10, val_main_v11, val_main_v12, val_main_v13, val_main_v50, val_main_v51,
    val_main_v52, val_main_cst, val_main_cst_0, val_main_cst_1, rowScale, project]

/-- The second result is the step size of its row, direction and head. -/
theorem dt_at (b : Fin 3) (s : Fin 8192) (q : Fin 24576) (hq : q.val = b.val * 8192 + s.val) (c : Fin 128) :
    val_main_v53 (F := Ideal) x g w bias (ix2 q c) = val_main_v19 (F := Ideal) x g w bias
      (ix4 b s ⟨c.val / 64, by omega⟩ ⟨c.val % 64, by omega⟩) := by
  have hb : b = ⟨q.val / 8192, by clear hq; omega⟩ := Fin.ext (by show b.val = q.val / 8192; omega)
  have hr : s = ⟨q.val % 8192, by clear hq; omega⟩ := Fin.ext (by show s.val = q.val % 8192; omega)
  rw [hb, hr]
  unfold val_main_v53
  generalize val_main_v19 (F := Ideal) x g w bias = z
  pointwise

/-- A row's decay, by the row's number in the whole array and its column. -/
def decay (c : Fin 128) (n : ℕ) : EReal := if h : n < 24576 then
  val_main_v53 (F := Ideal) x g w bias (ix2 ⟨n, h⟩ c)
    * -Ideal.exp (a (ix2 ⟨c.val / 64, by have := c.isLt; omega⟩ ⟨c.val % 64, by have := c.isLt; omega⟩)) else 0

theorem decay_fwd (b : Fin 3) (n : Fin 64) (p : Fin 128) (h : Fin 64) (c : Fin 128) (hc : c.val = h.val) :
    val_main_v29 (F := Ideal) x g w bias a (ix4 b n p h) = decay x g w bias a c (b.val * 8192 + (n.val * 128 + p.val)) := by
  unfold decay
  rw [dif_pos (by omega), dt_at x g w bias b ⟨n.val * 128 + p.val, by omega⟩ _ rfl]
  unfold val_main_v29 val_main_v28 val_main_v23 val_main_v22
  generalize val_main_v19 (F := Ideal) x g w bias = z
  have h0 : (⟨c.val / 64, by omega⟩ : Fin 2) = 0 := Fin.ext (by show c.val / 64 = 0; omega)
  have h1 : (⟨c.val % 64, by omega⟩ : Fin 64) = h := Fin.ext (by show c.val % 64 = h.val; omega)
  rw [h0, h1]
  pointwise [val_main_v27, val_main_v26, val_main_v25, val_main_v24, val_main_v21, val_main_v20]

theorem decay_back (b : Fin 3) (n : Fin 64) (p : Fin 128) (h : Fin 64) (c : Fin 128) (hc : c.val = 64 + h.val) :
    val_main_v40 (F := Ideal) x g w bias a (ix4 b n p h)
      = decay x g w bias a c (b.val * 8192 + (8191 - (n.val * 128 + p.val))) := by
  unfold decay
  rw [dif_pos (by omega), dt_at x g w bias b ⟨8191 - (n.val * 128 + p.val), by omega⟩ _ rfl]
  unfold val_main_v40 val_main_v39 val_main_v34 val_main_v33 val_main_v32
  generalize val_main_v19 (F := Ideal) x g w bias = z
  have h0 : (⟨c.val / 64, by omega⟩ : Fin 2) = 1 := Fin.ext (by show c.val / 64 = 1; omega)
  have h1 : (⟨c.val % 64, by omega⟩ : Fin 64) = h := Fin.ext (by show c.val % 64 = h.val; omega)
  rw [h0, h1]
  pointwise [val_main_v38, val_main_v37, val_main_v36, val_main_v35, val_main_v21, val_main_v20]
  refine congrArg (fun t => z (ix4 b t 1 h) * -Ideal.exp (a (ix2 1 h))) (Fin.ext ?_)
  show 8192 - (n.val * 128 + p.val + 1) = 8191 - (n.val * 128 + p.val)
  omega

/-- The third result: the running sum of the decays in the row's block, from its start for the first direction and
    towards its end for the second, over the logarithm of two. -/
theorem cs_at (q : Fin 24576) (c : Fin 128) : val_main_v54 (F := Ideal) x g w bias a (ix2 q c)
    = Ideal.div (if 64 ≤ c.val then back (decay x g w bias a c) 128 q.val else fwd (decay x g w bias a c) 128 q.val)
      (Ideal.log (Ideal.ofBits FTy.f32 0x40000000#32)) := by
  have hz : ∀ (b : Fin 3) (n : Fin 64) (p : Fin 128) (h : Fin 64), val_main_v30 (F := Ideal) x g w bias a (ix4 b n p h) = _ :=
    fun b n p h => cumsum_at (val_main_v29 (F := Ideal) x g w bias a) (val_main_call1_call0_v0 (F := Ideal))
      (by pointwise [val_main_call1_call0_v0, val_main_call1_call0_cst]) b n p h
  have hy : ∀ (b : Fin 3) (n : Fin 64) (p : Fin 128) (h : Fin 64), val_main_v41 (F := Ideal) x g w bias a (ix4 b n p h) = _ :=
    fun b n p h => cumsum_at (val_main_v40 (F := Ideal) x g w bias a) (val_main_call3_call0_v0 (F := Ideal))
      (by pointwise [val_main_call3_call0_v0, val_main_call3_call0_cst]) b n p h
  unfold val_main_v54 val_main_v49 val_main_v46 val_main_v44 val_main_v31 val_main_v45 val_main_v43 val_main_v42
  have hq := q.isLt
  by_cases hc : 64 ≤ c.val
  · rw [if_pos hc]
    have e : back (decay x g w bias a c) 128 q.val = val_main_v41 (F := Ideal) x g w bias a (ix4 ⟨q.val / 8192, by omega⟩
        ⟨(8191 - q.val % 8192) / 128, by omega⟩ ⟨(8191 - q.val % 8192) % 128, by omega⟩ ⟨c.val % 64, by omega⟩) := by
      rw [hy]
      refine Finset.sum_congr rfl fun j hj => ?_
      have hj := Finset.mem_range.mp hj
      refine if_ctx_congr (by show _ ↔ j ≤ (8191 - q.val % 8192) % 128; omega) (fun h => ?_) (fun _ => rfl)
      have h' : j ≤ (8191 - q.val % 8192) % 128 := h
      unfold lineOf
      rw [dif_pos (by show (8191 - q.val % 8192) % 128 - j < 128; omega), decay_back x g w bias a _ _ _ _ c (by show c.val = 64 + c.val % 64; omega)]
      refine congrArg _ ?_
      show q.val + j = q.val / 8192 * 8192 + (8191 - ((8191 - q.val % 8192) / 128 * 128 + ((8191 - q.val % 8192) % 128 - j)))
      omega
    rw [e]
    generalize val_main_v30 (F := Ideal) x g w bias a = z
    generalize val_main_v41 (F := Ideal) x g w bias a = y
    pointwise [val_main_v48, val_main_v47, val_main_cst_2]
    rw [dif_neg (by omega)]
    simp only [List.mem_singleton]
    refine congrArg₂ Ideal.div (congrArg y ?_) rfl
    funext d
    match d with
    | ⟨0, _⟩ => rfl
    | ⟨1, _⟩ => exact Fin.ext (by show (8192 - (q.val % 8192 + 1)) / 128 = (8191 - q.val % 8192) / 128; omega)
    | ⟨2, _⟩ => exact Fin.ext (by show (8192 - (q.val % 8192 + 1)) % 128 = (8191 - q.val % 8192) % 128; omega)
    | ⟨3, _⟩ => rfl
  · rw [if_neg hc]
    have e : fwd (decay x g w bias a c) 128 q.val = val_main_v30 (F := Ideal) x g w bias a (ix4 ⟨q.val / 8192, by omega⟩
        ⟨q.val % 8192 / 128, by omega⟩ ⟨q.val % 8192 % 128, by omega⟩ ⟨c.val % 64, by omega⟩) := by
      rw [hz]
      refine Finset.sum_congr rfl fun j hj => ?_
      refine if_ctx_congr (by show _ ↔ j ≤ q.val % 8192 % 128; omega) (fun h => ?_) (fun _ => rfl)
      have h' : j ≤ q.val % 8192 % 128 := h
      unfold lineOf
      rw [dif_pos (by show q.val % 8192 % 128 - j < 128; omega), decay_fwd x g w bias a _ _ _ _ c (by show c.val = c.val % 64; omega)]
      refine congrArg _ ?_
      show q.val - j = q.val / 8192 * 8192 + (q.val % 8192 / 128 * 128 + (q.val % 8192 % 128 - j))
      omega
    rw [e]
    generalize val_main_v30 (F := Ideal) x g w bias a = z
    generalize val_main_v41 (F := Ideal) x g w bias a = y
    pointwise [val_main_v48, val_main_v47, val_main_cst_2]
    rw [dif_pos (by omega)]

end Cert.Reference6Ideal.InProj

end
-- ==== Proof.InPay.lean ====
/- What one grid point of the input projection computes from its blocks, read at an index. -/
module

public import proofs.«01_k».proof.Proof.InRun
public import proofs.«01_k».proof.Proof.InRef
public import proofs.«01_k».proof.Proof.SoftMath

@[expose] public section

set_option maxRecDepth 16384

noncomputable section

namespace Cert.InProj

open Cert.MlpMath Cert.InMath Cert.InScan Cert.Kernel6Ideal Cert.Kernel6Ideal.Gen
open Idealize.ShloMosaic Idealize.ShloMosaic.TcCoe Idealize.SL.Sem

/-- The normalized row: an activation times its row's normalizing factor, times the gain. -/
theorem norm_at (x : FVec Ideal S1024x2048 .f32) (g : FVec Ideal S1x2048 .f32) (r : Fin 1024) (d : Fin 2048) :
    k0_pay3 (F := Ideal) x g (ix2 r d) = x (ix2 r d) * rowScale (fun k => x (ix2 r k)) * g (ix2 0 d) := by
  pointwise [k0_pay3, rowScale]

/-- The point's block of the projected rows. -/
theorem block_at (x : FVec Ideal S1024x2048 .f32) (g : FVec Ideal S1x2048 .f32) (w : FVec Ideal S2048x2048 .bf16)
    (r : Fin 1024) (d : Fin 2048) : k0_pay2 (F := Ideal) (k0_pay3 (F := Ideal) x g) w (ix2 r d)
      = project (fun l => x (ix2 r l)) (fun l => g (ix2 0 l)) (fun l => w (ix2 l d)) := by
  have e : k0_pay2 (F := Ideal) (k0_pay3 (F := Ideal) x g) w (ix2 r d)
      = ∑ k : Fin 2048, k0_pay3 (F := Ideal) x g (ix2 r k) * w (ix2 k d) := by
    generalize k0_pay3 (F := Ideal) x g = z
    pointwise [k0_pay2]
  rw [e]
  simp only [norm_at, project]

/-- The point's step sizes. -/
theorem steps_at (x : FVec Ideal S1024x2048 .f32) (g : FVec Ideal S1x2048 .f32) (w : FVec Ideal S2048x128 .bf16)
    (b : FVec Ideal S1x128 .f32) (r : Fin 1024) (c : Fin 128) : k0_pay4 (F := Ideal) (k0_pay3 (F := Ideal) x g) w b (ix2 r c)
      = softplus (project (fun l => x (ix2 r l)) (fun l => g (ix2 0 l)) (fun l => w (ix2 l c)) + b (ix2 0 c)) := by
  have e : k0_pay4 (F := Ideal) (k0_pay3 (F := Ideal) x g) w b (ix2 r c)
      = softplus (∑ k : Fin 2048, k0_pay3 (F := Ideal) x g (ix2 r k) * w (ix2 k c) + b (ix2 0 c)) := by
    generalize k0_pay3 (F := Ideal) x g = z
    pointwise [k0_pay4, softplus]
    rw [sub_eq_add_neg, zero_add (M := EReal)]
    rfl
  rw [e]
  simp only [norm_at, project]

/-- The named constant: one over the logarithm of two. -/
theorem named_at : Named.named (F := Ideal) κ "log2e" (φ := .f32) 0x3FB8AA3B#32 = (((Real.log 2)⁻¹ : ℝ) : EReal) := rfl

/-- The decays the point sums: a step size times the head's rate, in units of the logarithm of two. -/
theorem decay_at (dt : FVec Ideal S1024x128 .f32) (a : FVec Ideal S1x128 .f32) (r : Fin 1024) (c : Fin 128) :
    k0_pay6 (F := Ideal) dt (k0_pay5 (F := Ideal) a) (ix2 r c)
      = dt (ix2 r c) * -Ideal.exp (a (ix2 0 c)) * (((Real.log 2)⁻¹ : ℝ) : EReal) := by
  pointwise [k0_pay6, k0_pay5]
  rw [sub_eq_add_neg, zero_add (M := EReal), mul_assoc]
  rfl

/-- The point's running sums: towards the end of the row's block of 128 for the second direction's columns, from its
    start for the first's. -/
theorem sums_at (dt : FVec Ideal S1024x128 .f32) (a : FVec Ideal S1x128 .f32) (r : Fin 1024) (c : Fin 128) :
    sums (F := Ideal) dt a (ix2 r c) = if 64 ≤ c.val then back (col (k0_pay6 (F := Ideal) dt a) c) 128 r.val
      else fwd (col (k0_pay6 (F := Ideal) dt a) c) 128 r.val := by
  refine (pick_at _ _ r c).trans (if_congr Iff.rfl (back_sum dt a r c) ?_)
  exact fwd_turn _ 64 _ (fun r c => fwd_sum (k0_pay6 (F := Ideal) dt a) r c) _ 64#32 rfl (by decide) (above 64) r c

/-- Sums in a block of 1024 rows are sums in the whole array, and a nonnegative factor comes out. -/
theorem back_part (d e : ℕ → EReal) (L : ℝ) (hL : 0 ≤ L) (B r : ℕ) (hr : r < 1024)
    (h : ∀ n, n < 1024 → d n = e (B * 1024 + n) * (L : EReal)) :
    back d 128 r = back e 128 (B * 1024 + r) * (L : EReal) := by
  unfold back
  rw [← Cert.SoftMath.sum_mul_real _ _ _ hL]
  refine Finset.sum_congr rfl fun j _ => ?_
  have e1 : (B * 1024 + r) % 128 = r % 128 := by omega
  rw [e1]
  by_cases hj : r % 128 + j < 128
  · rw [if_pos hj, if_pos hj, h _ (by omega), Nat.add_assoc]
  · rw [if_neg hj, if_neg hj, zero_mul]

theorem fwd_part (d e : ℕ → EReal) (L : ℝ) (hL : 0 ≤ L) (B r : ℕ) (hr : r < 1024)
    (h : ∀ n, n < 1024 → d n = e (B * 1024 + n) * (L : EReal)) :
    fwd d 128 r = fwd e 128 (B * 1024 + r) * (L : EReal) := by
  unfold fwd
  rw [← Cert.SoftMath.sum_mul_real _ _ _ hL]
  refine Finset.sum_congr rfl fun j _ => ?_
  have e1 : (B * 1024 + r) % 128 = r % 128 := by omega
  rw [e1]
  by_cases hj : j ≤ r % 128
  · have e2 : B * 1024 + r - j = B * 1024 + (r - j) := by omega
    rw [if_pos hj, if_pos hj, h _ (by omega), e2]
  · rw [if_neg hj, if_neg hj, zero_mul]

/-- Dividing by the logarithm of the written two is multiplying by the named constant. -/
theorem div_log (x : EReal) : Ideal.div x (Ideal.log (Ideal.ofBits FTy.f32 0x40000000#32)) = x * (((Real.log 2)⁻¹ : ℝ) : EReal) := by
  have h2 : Ideal.ofBits .f32 0x40000000#32 = ((2 : ℝ) : EReal) := by
    simp [Ideal.ofBits, Ideal.ieee, -EReal.coe_mul]; norm_num
  rw [h2, Ideal.log_coe, if_neg (by norm_num), Ideal.div_coe (Real.log_pos (by norm_num)).ne', one_div]

end Cert.InProj

end
-- ==== Proof.InValue.lean ====
/- The three arrays the input projection leaves, against the reference's. -/
module

public import proofs.«01_k».proof.Proof.InFrame
public import proofs.«01_k».proof.Proof.InPay
public import Idealize.ShloMosaic.Lib.Claim

@[expose] public section

set_option maxRecDepth 16384

noncomputable section

namespace Cert.InProj

open Cert.MlpMath Cert.InMath Cert.InScan Cert.Kernel6Ideal Cert.Kernel6Ideal.Gen Cert.Reference6Ideal.InProj
open Idealize.ShloMosaic Idealize.ShloMosaic.TcCoe Idealize.SL.Sem
open Idealize.ShloMosaic.Pipeline (Dat)

variable (m : (ℓ : Loc nD τ sig) → Buf (Elt Ideal) ℓ)

/-- The point's block of activations. -/
theorem x_at (c : Dev nD) (t : Fin cfg0.N) (r : Fin 1024) (l : Fin 2048) (b : Fin 3) (s : Fin 8192)
    (hs : b.val * 8192 + s.val = t.val / 5 * 1024 + r.val) :
    (iblk m c 0 t : FVec Ideal S1024x2048 .f32) (ix2 r l) = m ((c : Thread nD τ).loc main_arg0) (ix3 b s l) := by
  blk_point [iblk, idx t]

/-- The point's block of the gain: all of it. -/
theorem g_at (c : Dev nD) (t : Fin cfg0.N) (l : Fin 2048) :
    (iblk m c 1 t : FVec Ideal S1x2048 .f32) (ix2 0 l) = m ((c : Thread nD τ).loc main_arg1) (ix1 l) := by
  blk_point [iblk, idx t]

/-- The point's tile of columns of the weights. -/
theorem w_at (c : Dev nD) (t : Fin cfg0.N) (l d : Fin 2048) (e : Fin 10368) (he : e.val = t.val % 5 * 2048 + d.val) :
    (iblk m c 2 t : FVec Ideal S2048x2048 .bf16) (ix2 l d) = m ((c : Thread nD τ).loc main_arg2) (ix2 l e) := by
  blk_point [iblk, idx t]

/-- The weights' last columns, those of the step sizes. -/
theorem u_at (c : Dev nD) (t : Fin cfg0.N) (l : Fin 2048) (d : Fin 128) (e : Fin 10368) (he : e.val = 10240 + d.val) :
    (iblk m c 3 t : FVec Ideal S2048x128 .bf16) (ix2 l d) = m ((c : Thread nD τ).loc main_arg2) (ix2 l e) := by
  blk_point [iblk, idx t]

/-- The step sizes' bias. -/
theorem bias_at (c : Dev nD) (t : Fin cfg0.N) (d : Fin 128) (i : Fin 2) (h : Fin 64) (hd : d.val = i.val * 64 + h.val) :
    (iblk m c 4 t : FVec Ideal S1x128 .f32) (ix2 0 d) = m ((c : Thread nD τ).loc main_arg3) (ix2 i h) := by
  blk_point [iblk, idx t]

/-- The heads' rates. -/
theorem rate_at (c : Dev nD) (t : Fin cfg0.N) (d : Fin 128) (i : Fin 2) (h : Fin 64) (hd : d.val = i.val * 64 + h.val) :
    (iblk m c 5 t : FVec Ideal S1x128 .f32) (ix2 0 d) = m ((c : Thread nD τ).loc main_arg4) (ix2 i h) := by
  blk_point [iblk, idx t]

/-- The arguments. -/
abbrev hA (c : Dev nD) : FVec Ideal S3x8192x2048 .f32 := m ((c : Thread nD τ).loc main_arg0)
abbrev gA (c : Dev nD) : FVec Ideal S2048 .f32 := m ((c : Thread nD τ).loc main_arg1)
abbrev wA (c : Dev nD) : FVec Ideal S2048x10368 .f32 := m ((c : Thread nD τ).loc main_arg2)
abbrev bA (c : Dev nD) : FVec Ideal S2x64 .f32 := m ((c : Thread nD τ).loc main_arg3)
abbrev aA (c : Dev nD) : FVec Ideal S2x64 .f32 := m ((c : Thread nD τ).loc main_arg4)

/-- A point's step sizes are the reference's of the rows the point works on. -/
theorem steps_ref (c : Dev nD) (t : Fin cfg0.N) (r : Fin 1024) (d : Fin 128) (q : Fin 24576)
    (hq : q.val = t.val / 5 * 1024 + r.val) :
    steps m c t (ix2 r d) = Cert.Reference6Ideal.Read.val_main_v53 (F := Ideal) (hA m c) (gA m c) (wA m c) (bA m c) (ix2 q d) := by
  have hqlt := q.isLt
  let b : Fin 3 := ⟨q.val / 8192, by omega⟩
  let s : Fin 8192 := ⟨q.val % 8192, by omega⟩
  have hbs : q.val = b.val * 8192 + s.val := by
    show q.val = q.val / 8192 * 8192 + q.val % 8192
    omega
  rw [dt_at _ _ _ _ b s q hbs d, step_at]
  refine (steps_at (iblk m c 0 t) (iblk m c 1 t) (iblk m c 3 t) (iblk m c 4 t) r d).trans ?_
  have ed : d.val = d.val / 64 * 64 + d.val % 64 := by omega
  refine congrArg softplus (congrArg₂ (fun u v : EReal => u + v) ?_ (bias_at m c t d _ _ ed))
  exact congr (congr (congrArg project (funext fun l => x_at m c t r l b s (hbs.symm.trans hq))) (funext (g_at m c t)))
    (funext fun l => u_at m c t l d _ (by show 10240 + (d.val / 64 * 64 + d.val % 64) = 10240 + d.val; omega))

/-- The first array: the projected rows. -/
theorem final6 (c : Dev nD) : (dats m 0 c).arrAt 6 (cfgs 0).N
    = Cert.Reference6Ideal.Read.val_main_v52 (F := Ideal) (hA m c) (gA m c) (wA m c) := by
  refine (dats m 0 c).arrAt_eq_of_covers 6 _ (by decide +kernel) fun t hf y => ?_
  blk_simp
  rw [after0_6]
  have hQ : ((win0_6.blk t).view.emb y 0).val = t.val / 5 * 1024 + (y 0).val := by blk_simp [idx t]
  have hE : ((win0_6.blk t).view.emb y 1).val = t.val % 5 * 2048 + (y 1).val := by blk_simp [idx t]
  have hQlt : t.val / 5 * 1024 + (y 0).val < 24576 := hQ ▸ ((win0_6.blk t).view.emb y 0).isLt
  let b : Fin 3 := ⟨(t.val / 5 * 1024 + (y 0).val) / 8192, by omega⟩
  let s : Fin 8192 := ⟨(t.val / 5 * 1024 + (y 0).val) % 8192, by omega⟩
  have hbs : b.val * 8192 + s.val = t.val / 5 * 1024 + (y 0).val := by
    show (t.val / 5 * 1024 + (y 0).val) / 8192 * 8192 + (t.val / 5 * 1024 + (y 0).val) % 8192 = _
    omega
  refine Eq.trans ?_ (congrArg _ (eq_ix2 _).symm)
  refine Eq.trans ?_ (zxbc_at _ _ _ b s _ (hQ.trans hbs.symm) _).symm
  refine (congrArg _ (eq_ix2 y)).trans ((block_at (iblk m c 0 t) (iblk m c 1 t) (iblk m c 2 t) (y 0) (y 1)).trans ?_)
  exact congr (congr (congrArg project (funext fun l => x_at m c t (y 0) l b s hbs)) (funext (g_at m c t)))
    (funext fun l => w_at m c t l (y 1) _ hE)

/-- The second array: the step sizes. -/
theorem final7 (c : Dev nD) : (dats m 0 c).arrAt 7 (cfgs 0).N
    = Cert.Reference6Ideal.Read.val_main_v53 (F := Ideal) (hA m c) (gA m c) (wA m c) (bA m c) := by
  refine (dats m 0 c).arrAt_eq_of_covers 7 _ (by decide +kernel) fun t hf y => ?_
  blk_simp
  rw [after0_7]
  have hQ : ((win0_7.blk t).view.emb y 0).val = t.val / 5 * 1024 + (y 0).val := by blk_simp [idx t]
  have hE : (win0_7.blk t).view.emb y 1 = y 1 := Fin.ext (by blk_simp [idx t])
  refine Eq.trans ?_ (congrArg _ (eq_ix2 _).symm)
  rw [hE]
  exact (congrArg _ (eq_ix2 y)).trans (steps_ref m c t (y 0) (y 1) _ hQ)

/-- The decays a point sums are the reference's, in units of the logarithm of two. -/
theorem decay_ref (c : Dev nD) (t : Fin cfg0.N) (d : Fin 128) (n : ℕ) (hn : n < 1024) :
    col (k0_pay6 (F := Ideal) (steps m c t) (k0_pay5 (F := Ideal) (iblk m c 5 t))) d n
      = decay (hA m c) (gA m c) (wA m c) (bA m c) (aA m c) d (t.val / 5 * 1024 + n) * (((Real.log 2)⁻¹ : ℝ) : EReal) := by
  have ht := (idx t).2.2.2.2.2.2.2.2.2
  unfold col decay
  rw [dif_pos hn, dif_pos (by omega), decay_at]
  have ed : d.val = d.val / 64 * 64 + d.val % 64 := by omega
  rw [steps_ref m c t ⟨n, hn⟩ d ⟨t.val / 5 * 1024 + n, by omega⟩ rfl, rate_at m c t d ⟨d.val / 64, by omega⟩ ⟨d.val % 64, by omega⟩ ed]

/-- The third array: the running sums. -/
theorem final8 (c : Dev nD) : (dats m 0 c).arrAt 8 (cfgs 0).N
    = Cert.Reference6Ideal.Read.val_main_v54 (F := Ideal) (hA m c) (gA m c) (wA m c) (bA m c) (aA m c) := by
  refine (dats m 0 c).arrAt_eq_of_covers 8 _ (by decide +kernel) fun t hf y => ?_
  blk_simp
  rw [after0_8]
  have hQ : ((win0_8.blk t).view.emb y 0).val = t.val / 5 * 1024 + (y 0).val := by blk_simp [idx t]
  have hE : (win0_8.blk t).view.emb y 1 = y 1 := Fin.ext (by blk_simp [idx t])
  have hL : 0 ≤ (Real.log 2)⁻¹ := inv_nonneg.mpr (Real.log_pos (by norm_num)).le
  refine Eq.trans ?_ (congrArg _ (eq_ix2 _).symm)
  rw [hE]
  refine Eq.trans ?_ ((cs_at _ _ _ _ _ _ _).trans (div_log _)).symm
  refine (congrArg _ (eq_ix2 y)).trans ((sums_at _ _ (y 0) (y 1)).trans ?_)
  by_cases h : 64 ≤ (y 1).val
  · refine (if_pos h).trans (Eq.trans ?_ (congrArg (fun v : EReal => v * (((Real.log 2)⁻¹ : ℝ) : EReal)) (if_pos h).symm))
    exact (back_part _ _ _ hL _ _ (y 0).isLt (decay_ref m c t (y 1))).trans
      (congrArg (fun n => back _ 128 n * (((Real.log 2)⁻¹ : ℝ) : EReal)) hQ.symm)
  · refine (if_neg h).trans (Eq.trans ?_ (congrArg (fun v : EReal => v * (((Real.log 2)⁻¹ : ℝ) : EReal)) (if_neg h).symm))
    exact (fwd_part _ _ _ hL _ _ (y 0).isLt (decay_ref m c t (y 1))).trans
      (congrArg (fun n => fwd _ 128 n * (((Real.log 2)⁻¹ : ℝ) : EReal)) hQ.symm)

end Cert.InProj

end
-- ==== Proof.QkvPay.lean ====
/- One head of the attention's input projection as the kernel computes it, and the value tiles, read at an index. -/
module

public import proofs.«01_k».proof.Proof.Gen.Kernel7Ideal.Value
public import proofs.«01_k».proof.Proof.InRef
public import proofs.«01_k».proof.Proof.SoftMath

@[expose] public section

set_option maxRecDepth 16384

noncomputable section

namespace Cert.QkvMath

open Idealize.ShloMosaic

/-- The factor that normalizes a head's 128 entries: one over the root of their mean square, which a small number lifts. -/
def headScale (v : Fin 128 → EReal) : EReal :=
  Ideal.rsqrt (Ideal.div (∑ k, v k * v k) (Ideal.ofBits .f32 0x43000000#32) + Ideal.ofBits .f32 0x358637BD#32)

end Cert.QkvMath

namespace Cert.Qkv

open Cert.MlpMath Cert.InMath Cert.QkvMath Cert.Kernel7Ideal Cert.Kernel7Ideal.Gen
open Idealize.ShloMosaic Idealize.ShloMosaic.TcCoe Idealize.SL.Sem

variable {F : FTy → Type} [FloatOps F]

/-- A head's entries normalized and times the gain: the head is a slice of a tile of four. -/
def headNorm (acc : FVec F S512x512 .f32) (o : Fin 2 → ℕ) (h : S512x512.Slices o S512x128) (g : FVec F S1x128 .f32) :
    FVec F S512x128 .f32 :=
  let x := extractStridedSlice S512x128 o acc h
  mulf (mulf x (broadcastTo S512x128 (rsqrt (addf (divf (shapeCast S512x1
    (multiReduction .add [1] S512 (mulf x x) 0x00000000#32 reduces_S512x128_S512 (.inl rfl) rfl) shapeCasts_S512_S512x1)
    (broadcast S512x1 (Scalar.ofBits .f32 0x43000000#32))) (broadcast S512x1 (Scalar.ofBits .f32 0x358637BD#32))))
    broadcasts_S512x1_S512x128)) (broadcastTo S512x128 g broadcasts_S1x128_S512x128)

/-- The head turned by the position's angles: its entries times the cosines, plus those half a head on times the sines. -/
def turnHead (y rc rs : FVec F S512x128 .f32) : FVec F S512x128 .bf16 :=
  truncf .bf16 (addf (mulf y rc) (mulf (dynamicRotate 1 64#32 none y rotates_S512x128_d1) rs)) bitsLt_bf16_f32

/-- A tile of four heads before normalization. -/
def tile (z : FVec F S512x2048 .bf16) (w : FVec F S2048x512 .bf16) : FVec F S512x512 .f32 :=
  matmul dot_S512x2048_S2048x512_S512x512_1_0_0_1_n_n none z (shapeCast S2048x512 w shapeCasts_S2048x512_S2048x512)
    (constant S512x512 .f32 0x00000000#32)

/-- The normalized row: an activation times its row's normalizing factor, times the gain. -/
theorem norm_at (x : FVec Ideal S512x2048 .f32) (g : FVec Ideal S1x2048 .f32) (r : Fin 512) (d : Fin 2048) :
    k0_pay3 (F := Ideal) x g (ix2 r d) = x (ix2 r d) * rowScale (fun k => x (ix2 r k)) * g (ix2 0 d) := by
  pointwise [k0_pay3, rowScale]

/-- A tile of four heads at an index. -/
theorem tile_at (x : FVec Ideal S512x2048 .f32) (g : FVec Ideal S1x2048 .f32) (w : FVec Ideal S2048x512 .bf16)
    (r d : Fin 512) : tile (F := Ideal) (k0_pay3 (F := Ideal) x g) w (ix2 r d)
      = project (fun l => x (ix2 r l)) (fun l => g (ix2 0 l)) (fun l => w (ix2 l d)) := by
  have e : tile (F := Ideal) (k0_pay3 (F := Ideal) x g) w (ix2 r d)
      = ∑ k : Fin 2048, k0_pay3 (F := Ideal) x g (ix2 r k) * w (ix2 k d) := by
    generalize k0_pay3 (F := Ideal) x g = z
    pointwise [tile]
  rw [e]
  simp only [norm_at, project]

/-- A head's normalized entry. -/
theorem headNorm_at (acc : FVec Ideal S512x512 .f32) (o : Fin 2 → ℕ) (h : S512x512.Slices o S512x128) (g : FVec Ideal S1x128 .f32)
    (n : ℕ) (h0 : o 0 = 0) (h1 : o 1 = n) (hn : n + 128 ≤ 512) (r : Fin 512) (d : Fin 128) :
    headNorm (F := Ideal) acc o h g (ix2 r d) = acc (ix2 r ⟨n + d.val, by omega⟩)
      * headScale (fun k => acc (ix2 r ⟨n + k.val, by omega⟩)) * g (ix2 0 d) := by
  have e : ∀ k : Fin 128, extractStridedSlice S512x128 o acc h (ix2 r k) = acc (ix2 r ⟨n + k.val, by omega⟩) := by
    intro k
    refine congrArg acc (funext fun a => Fin.ext ?_)
    match a with
    | ⟨0, _⟩ => show o 0 + r.val = r.val; omega
    | ⟨1, _⟩ => show o 1 + k.val = n + k.val; omega
  unfold headNorm headScale
  generalize extractStridedSlice S512x128 o acc h = x at e
  simp only [← e]
  pointwise

/-- A turned head's entry. -/
theorem turnHead_at (y rc rs : FVec Ideal S512x128 .f32) (r : Fin 512) (d : Fin 128) :
    turnHead (F := Ideal) y rc rs (ix2 r d) = y (ix2 r d) * rc (ix2 r d)
      + y (ix2 r ⟨(d.val + 64) % 128, Nat.mod_lt _ (by decide)⟩) * rs (ix2 r d) := by
  pointwise [turnHead]
  rfl

end Cert.Qkv

end
-- ==== Proof.QkvBlock.lean ====
/- What one grid point of the attention's input projection leaves in its output block: 24 heads of 128 columns, then
   two tiles of values, as one function of the point's blocks. -/
module

public import proofs.«01_k».proof.Proof.QkvPay
public import Idealize.ShloMosaic.Lib.Writes

@[expose] public section

set_option maxRecDepth 16384

noncomputable section

namespace Cert.Qkv

open Cert.MlpMath Cert.InMath Cert.QkvMath Cert.Kernel7Ideal Cert.Kernel7Ideal.Gen
open Idealize.ShloMosaic Idealize.ShloMosaic.TcCoe Idealize.SL.Sem

section Pieces

variable {F : FTy → Type} [FloatOps F]
variable (arg1 : Memref sig .tc .vmem S512x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S2x128 .f32) (harg4 : arg4.IsWhole) (arg5 : Memref sig .tc .vmem S512x128 .f32) (harg5 : arg5.IsWhole) (arg6 : Memref sig .tc .vmem S512x128 .f32) (harg6 : arg6.IsWhole)
variable (x0 : Vec F S512x2048 .f32) (x1 : Vec F S1x2048 .f32) (x2 : Vec F S2048x4096 .bf16) (x3 : Vec F S2x128 .f32) (x4 : Vec F S512x128 .f32) (x5 : Vec F S512x128 .f32)

theorem head_in (n : ℕ) (hn : n < 24) : ∀ a, (![0, n * 128] : Fin 2 → ℕ) a + S512x128.size a ≤ S512x4096.size a
  | ⟨0, _⟩ => Nat.le_refl _
  | ⟨1, _⟩ => by show n * 128 + 128 ≤ 4096; omega

theorem values_in (n : ℕ) (hn : n < 8) : ∀ a, (![0, n * 512] : Fin 2 → ℕ) a + S512x512.size a ≤ S512x4096.size a
  | ⟨0, _⟩ => Nat.le_refl _
  | ⟨1, _⟩ => by show n * 512 + 512 ≤ 4096; omega

theorem cols_in (n : ℕ) (hn : n < 8) : ∀ a, (![0, n * 512] : Fin 2 → ℕ) a + S2048x512.size a ≤ S2048x4096.size a
  | ⟨0, _⟩ => Nat.le_refl _
  | ⟨1, _⟩ => by show n * 512 + 512 ≤ 4096; omega

theorem gain_in (n : ℕ) (hn : n < 2) : ∀ a, (![n, 0] : Fin 2 → ℕ) a + S1x128.size a ≤ S2x128.size a
  | ⟨0, _⟩ => by show n + 1 ≤ 2; omega
  | ⟨1, _⟩ => Nat.le_refl _

theorem slice_in (n : ℕ) (hn : n < 4) : S512x512.Slices ![0, n * 128] S512x128 :=
  ⟨rfl, fun a => match a with
    | ⟨0, _⟩ => Nat.le_refl _
    | ⟨1, _⟩ => by show n * 128 + 128 ≤ 512; omega⟩

/-- The normalized rows, from the blocks as loaded. -/
abbrev rows : FVec F S512x2048 .bf16 :=
  k0_pay3 (View.readAt (Elt F) arg1.view (Rect.unit (s := S512x2048) ![0, 0] S512x2048.size inb_S512x2048_S512x2048_0_0).toLoadRect (harg1.unread x0))
    (View.readAt (Elt F) arg2.view (Rect.unit (s := S1x2048) ![0, 0] S1x2048.size inb_S1x2048_S1x2048_0_0).toLoadRect (harg2.unread x1))

/-- The load of a tile's weights. -/
abbrev cols (n : ℕ) (hn : n < 8) : Vec F S2048x512 .bf16 :=
  View.readAt (Elt F) arg3.view (Rect.unit (s := S2048x4096) ![0, n * 512] S2048x512.size (cols_in n hn)).toLoadRect (harg3.unread x2)

/-- The load of a kind's gain. -/
abbrev gain (n : ℕ) (hn : n < 2) : Vec F S1x128 .f32 :=
  View.readAt (Elt F) arg4.view (Rect.unit (s := S2x128) ![n, 0] S1x128.size (gain_in n hn)).toLoadRect (harg4.unread x3)

/-- The store of a head. -/
def headPiece (n : ℕ) (hn : n < 24) : View.Piece (Elt F) S512x4096 .bf16 :=
  ⟨Rect.unit (s := S512x4096) ![0, n * 128] S512x128.size (head_in n hn),
    turnHead (headNorm (tile (rows arg1 harg1 arg2 harg2 x0 x1) (cols arg3 harg3 x2 (n / 4) (by omega)))
      ![0, n % 4 * 128] (slice_in (n % 4) (by omega)) (k0_pay7 (gain arg4 harg4 x3 (n / 16) (by omega))))
      (k0_pay4 (View.readAt (Elt F) arg5.view (Rect.unit (s := S512x128) ![0, 0] S512x128.size inb_S512x128_S512x128_0_0).toLoadRect (harg5.unread x4)))
      (k0_pay5 (View.readAt (Elt F) arg6.view (Rect.unit (s := S512x128) ![0, 0] S512x128.size inb_S512x128_S512x128_0_0).toLoadRect (harg6.unread x5)))⟩

/-- The store of a tile of values. -/
def valuePiece (n : ℕ) (hn : n < 8) : View.Piece (Elt F) S512x4096 .bf16 :=
  ⟨Rect.unit (s := S512x4096) ![0, n * 512] S512x512.size (values_in n hn),
    truncf .bf16 (tile (rows arg1 harg1 arg2 harg2 x0 x1) (cols arg3 harg3 x2 n hn)) bitsLt_bf16_f32⟩

/-- The point's stores, the last first. -/
def stores : List (View.Piece (Elt F) S512x4096 .bf16) :=
  [7, 6].pmap (valuePiece arg1 harg1 arg2 harg2 arg3 harg3 x0 x1 x2) (by decide)
    ++ (List.range 24).reverse.pmap (headPiece arg1 harg1 arg2 harg2 arg3 harg3 arg4 harg4 arg5 harg5 arg6 harg6 x0 x1 x2 x3 x4 x5) (by decide)

theorem stores_eq (c : Dev nD) (i : grid0.Coords) (arg7 : Memref sig .tc .vmem S512x4096 .bf16) (harg7 : arg7.IsWhole) :
    (kernelRun0_A c i arg1 harg1 arg2 harg2 arg3 harg3 arg4 harg4 arg5 harg5 arg6 harg6 arg7 harg7 x0 x1 x2 x3 x4 x5).1 = stores arg1 harg1 arg2 harg2 arg3 harg3 arg4 harg4 arg5 harg5 arg6 harg6 x0 x1 x2 x3 x4 x5 := rfl

end Pieces

/-- A row's product with a column of the weights. -/
def dotAt (x : FVec Ideal S512x2048 .f32) (g : FVec Ideal S1x2048 .f32) (w : FVec Ideal S2048x4096 .bf16) (r : Fin 512)
    (e : Fin 4096) : EReal := project (fun l => x (ix2 r l)) (fun l => g (ix2 0 l)) (fun l => w (ix2 l e))

/-- An entry of a head, normalized and times its gain. -/
def headAt (x : FVec Ideal S512x2048 .f32) (g : FVec Ideal S1x2048 .f32) (w : FVec Ideal S2048x4096 .bf16)
    (gs : FVec Ideal S2x128 .f32) (r : Fin 512) (n : Fin 24) (d : Fin 128) : EReal :=
  dotAt x g w r ⟨n.val * 128 + d.val, by omega⟩ * headScale (fun k => dotAt x g w r ⟨n.val * 128 + k.val, by omega⟩)
    * gs (ix2 ⟨n.val / 16, by omega⟩ d)

/-- The block a point leaves. -/
def blockAt (x0 : FVec Ideal S512x2048 .f32) (x1 : FVec Ideal S1x2048 .f32) (x2 : FVec Ideal S2048x4096 .bf16) (x3 : FVec Ideal S2x128 .f32) (x4 : FVec Ideal S512x128 .f32) (x5 : FVec Ideal S512x128 .f32) (r : Fin 512) (e : Fin 4096) : EReal :=
  if h : e.val < 3072 then
    headAt x0 x1 x2 x3 r ⟨e.val / 128, by omega⟩ ⟨e.val % 128, by omega⟩ * x4 (ix2 r ⟨e.val % 128, by omega⟩)
      + headAt x0 x1 x2 x3 r ⟨e.val / 128, by omega⟩ ⟨(e.val % 128 + 64) % 128, by omega⟩ * x5 (ix2 r ⟨e.val % 128, by omega⟩)
  else dotAt x0 x1 x2 r e

section Ideal

variable (arg1 : Memref sig .tc .vmem S512x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S2x128 .f32) (harg4 : arg4.IsWhole) (arg5 : Memref sig .tc .vmem S512x128 .f32) (harg5 : arg5.IsWhole) (arg6 : Memref sig .tc .vmem S512x128 .f32) (harg6 : arg6.IsWhole)
variable (x0 : FVec Ideal S512x2048 .f32) (x1 : FVec Ideal S1x2048 .f32) (x2 : FVec Ideal S2048x4096 .bf16) (x3 : FVec Ideal S2x128 .f32) (x4 : FVec Ideal S512x128 .f32) (x5 : FVec Ideal S512x128 .f32)

theorem load_whole {a b : ℕ} {e : EltTy} (M : Memref sig .tc .vmem ⟨2, ![a, b]⟩ e) (hM : M.IsWhole)
    (x : (⟨2, ![a, b]⟩ : Shape).Idx → Elt Ideal e) (inb) (r : Fin a) (d : Fin b) :
    View.readAt (Elt Ideal) M.view (Rect.unit (s := ⟨2, ![a, b]⟩) ![0, 0] (⟨2, ![a, b]⟩ : Shape).size inb).toLoadRect (hM.unread x) (ix2 r d)
      = x (ix2 r d) := by
  rw [View.readAt_eq_ld, Memref.IsWhole.read_unread]
  pointwise
  refine congrArg x (funext fun k => Fin.ext ?_)
  match k with
  | ⟨0, _⟩ => exact Nat.zero_add _
  | ⟨1, _⟩ => exact Nat.zero_add _

theorem cols_at (n : ℕ) (hn : n < 8) (l : Fin 2048) (d : Fin 512) :
    cols (F := Ideal) arg3 harg3 x2 n hn (ix2 l d) = x2 (ix2 l ⟨n * 512 + d.val, by omega⟩) := by
  unfold cols
  rw [View.readAt_eq_ld, Memref.IsWhole.read_unread]
  pointwise

theorem gain_at (n : ℕ) (hn : n < 2) (d : Fin 128) :
    gain (F := Ideal) arg4 harg4 x3 n hn (ix2 0 d) = x3 (ix2 ⟨n, hn⟩ d) := by
  unfold gain
  rw [View.readAt_eq_ld, Memref.IsWhole.read_unread]
  pointwise

/-- A tile of the product from the loads. -/
theorem tile_loads (n : ℕ) (hn : n < 8) (r d : Fin 512) :
    tile (F := Ideal) (rows (F := Ideal) arg1 harg1 arg2 harg2 x0 x1) (cols (F := Ideal) arg3 harg3 x2 n hn) (ix2 r d)
      = dotAt x0 x1 x2 r ⟨n * 512 + d.val, by omega⟩ := by
  refine (tile_at _ _ _ r d).trans ?_
  exact congr (congr (congrArg project (funext fun l => load_whole arg1 harg1 x0 _ r l))
    (funext fun l => load_whole arg2 harg2 x1 _ 0 l)) (funext fun l => cols_at arg3 harg3 x2 n hn l d)

/-- A normalized head from the loads. -/
theorem head_loads (n : ℕ) (hn : n < 24) (r : Fin 512) (d : Fin 128) :
    headNorm (F := Ideal) (tile (F := Ideal) (rows (F := Ideal) arg1 harg1 arg2 harg2 x0 x1)
      (cols (F := Ideal) arg3 harg3 x2 (n / 4) (by omega))) ![0, n % 4 * 128] (slice_in (n % 4) (by omega))
      (k0_pay7 (gain (F := Ideal) arg4 harg4 x3 (n / 16) (by omega))) (ix2 r d) = headAt x0 x1 x2 x3 r ⟨n, hn⟩ d := by
  refine (headNorm_at _ _ _ _ (n % 4 * 128) rfl rfl (by omega) r d).trans ?_
  have e : ∀ k : Fin 128, tile (F := Ideal) (rows (F := Ideal) arg1 harg1 arg2 harg2 x0 x1)
      (cols (F := Ideal) arg3 harg3 x2 (n / 4) (by omega)) (ix2 r ⟨n % 4 * 128 + k.val, by omega⟩)
      = dotAt x0 x1 x2 r ⟨n * 128 + k.val, by omega⟩ := fun k =>
    (tile_loads arg1 harg1 arg2 harg2 arg3 harg3 x0 x1 x2 (n / 4) (by omega) r ⟨n % 4 * 128 + k.val, by omega⟩).trans
      (congrArg (dotAt x0 x1 x2 r) (Fin.ext (by show n / 4 * 512 + (n % 4 * 128 + k.val) = n * 128 + k.val; omega)))
  have eg : k0_pay7 (F := Ideal) (gain (F := Ideal) arg4 harg4 x3 (n / 16) (by omega)) (ix2 0 d)
      = x3 (ix2 ⟨n / 16, by omega⟩ d) := by
    refine Eq.trans ?_ (gain_at arg4 harg4 x3 (n / 16) (by omega) d)
    generalize gain (F := Ideal) arg4 harg4 x3 (n / 16) (by omega) = g
    pointwise [k0_pay7]
  unfold headAt
  rw [e d, eg, funext e]

/-- The tables of the angles, from the loads. -/
theorem cos_loads (r : Fin 512) (d : Fin 128) : k0_pay4 (F := Ideal)
    (View.readAt (Elt Ideal) arg5.view (Rect.unit (s := S512x128) ![0, 0] S512x128.size inb_S512x128_S512x128_0_0).toLoadRect (harg5.unread x4)) (ix2 r d)
      = x4 (ix2 r d) := by
  refine Eq.trans ?_ (load_whole arg5 harg5 x4 inb_S512x128_S512x128_0_0 r d)
  generalize View.readAt (Elt Ideal) arg5.view _ _ = g
  pointwise [k0_pay4]

theorem sin_loads (r : Fin 512) (d : Fin 128) : k0_pay5 (F := Ideal)
    (View.readAt (Elt Ideal) arg6.view (Rect.unit (s := S512x128) ![0, 0] S512x128.size inb_S512x128_S512x128_0_0).toLoadRect (harg6.unread x5)) (ix2 r d)
      = x5 (ix2 r d) := by
  refine Eq.trans ?_ (load_whole arg6 harg6 x5 inb_S512x128_S512x128_0_0 r d)
  generalize View.readAt (Elt Ideal) arg6.view _ _ = g
  pointwise [k0_pay5]

theorem blockAt_value (r : Fin 512) (e : Fin 4096) (h : 3072 ≤ e.val) : blockAt x0 x1 x2 x3 x4 x5 r e = dotAt x0 x1 x2 r e :=
  dif_neg (Nat.not_lt.mpr h)

theorem blockAt_head (r : Fin 512) (n : ℕ) (hn : n < 24) (d : Fin 128) :
    blockAt x0 x1 x2 x3 x4 x5 r ⟨n * 128 + d.val, by omega⟩ = headAt x0 x1 x2 x3 r ⟨n, hn⟩ d * x4 (ix2 r d)
      + headAt x0 x1 x2 x3 r ⟨n, hn⟩ ⟨(d.val + 64) % 128, Nat.mod_lt _ (by decide)⟩ * x5 (ix2 r d) := by
  have hd : (n * 128 + d.val) % 128 = d.val := by omega
  have hq : (n * 128 + d.val) / 128 = n := by omega
  refine (dif_pos (show n * 128 + d.val < 3072 by omega)).trans ?_
  generalize headAt x0 x1 x2 x3 r = f
  have e1 : (⟨(n * 128 + d.val) / 128, by omega⟩ : Fin 24) = ⟨n, hn⟩ := Fin.ext hq
  have e2 : (⟨(n * 128 + d.val) % 128, by omega⟩ : Fin 128) = d := Fin.ext hd
  have e3 : (⟨((n * 128 + d.val) % 128 + 64) % 128, by omega⟩ : Fin 128) = ⟨(d.val + 64) % 128, Nat.mod_lt _ (by decide)⟩ :=
    Fin.ext (by show ((n * 128 + d.val) % 128 + 64) % 128 = _; rw [hd])
  exact congrArg₂ (fun u v : EReal => u + v)
    (congrArg₂ (fun u v : EReal => u * v) (congrArg₂ f e1 e2) (congrArg (fun k => x4 (ix2 r k)) e2))
    (congrArg₂ (fun u v : EReal => u * v) (congrArg₂ f e1 e3) (congrArg (fun k => x5 (ix2 r k)) e2))

/-- Every store leaves the block's entries where it writes. -/
theorem stores_at (p : View.Piece (Elt Ideal) S512x4096 .bf16) (hp : p ∈ stores (F := Ideal) arg1 harg1 arg2 harg2 arg3 harg3 arg4 harg4 arg5 harg5 arg6 harg6 x0 x1 x2 x3 x4 x5) (y : p.1.shape.Idx) :
    p.2 y = blockAt x0 x1 x2 x3 x4 x5 (p.1.emb y 0) (p.1.emb y 1) := by
  unfold stores at hp
  rcases List.mem_append.mp hp with h | h
  · obtain ⟨n, hm, rfl⟩ := List.mem_pmap.mp h
    have hn : 6 ≤ n ∧ n < 8 := by
      simp only [List.mem_cons, List.not_mem_nil, or_false] at hm
      omega
    obtain ⟨r, d, rfl⟩ : ∃ (r : Fin 512) (d : Fin 512), y = ix2 r d := ⟨y 0, y 1, eq_ix2 (n0 := 512) (n1 := 512) y⟩
    refine (tile_loads arg1 harg1 arg2 harg2 arg3 harg3 x0 x1 x2 n hn.2 r d).trans ?_
    have e0 : (valuePiece (F := Ideal) arg1 harg1 arg2 harg2 arg3 harg3 x0 x1 x2 n hn.2).1.emb (ix2 r d) 0 = r :=
      Fin.ext (by show 0 + 1 * r.val = r.val; omega)
    have e1 : (valuePiece (F := Ideal) arg1 harg1 arg2 harg2 arg3 harg3 x0 x1 x2 n hn.2).1.emb (ix2 r d) 1
        = (⟨n * 512 + d.val, by omega⟩ : Fin 4096) := Fin.ext (by show n * 512 + 1 * d.val = n * 512 + d.val; omega)
    rw [e0, e1]
    exact (blockAt_value x0 x1 x2 x3 x4 x5 r _ (by show 3072 ≤ n * 512 + d.val; omega)).symm
  · obtain ⟨n, hm, rfl⟩ := List.mem_pmap.mp h
    have hn : n < 24 := List.mem_range.mp (List.mem_reverse.mp hm)
    obtain ⟨r, d, rfl⟩ : ∃ (r : Fin 512) (d : Fin 128), y = ix2 r d := ⟨y 0, y 1, eq_ix2 (n0 := 512) (n1 := 128) y⟩
    refine (turnHead_at _ _ _ r d).trans ?_
    have e0 : (headPiece (F := Ideal) arg1 harg1 arg2 harg2 arg3 harg3 arg4 harg4 arg5 harg5 arg6 harg6 x0 x1 x2 x3 x4 x5 n hn).1.emb (ix2 r d) 0 = r :=
      Fin.ext (by show 0 + 1 * r.val = r.val; omega)
    have e1 : (headPiece (F := Ideal) arg1 harg1 arg2 harg2 arg3 harg3 arg4 harg4 arg5 harg5 arg6 harg6 x0 x1 x2 x3 x4 x5 n hn).1.emb (ix2 r d) 1
        = (⟨n * 128 + d.val, by omega⟩ : Fin 4096) := Fin.ext (by show n * 128 + 1 * d.val = n * 128 + d.val; omega)
    rw [e0, e1]
    refine Eq.trans ?_ (blockAt_head x0 x1 x2 x3 x4 x5 r n hn d).symm
    refine congrArg₂ (fun u v : EReal => u + v) (congrArg₂ (fun u v : EReal => u * v) ?_ (cos_loads arg5 harg5 x4 r d))
      (congrArg₂ (fun u v : EReal => u * v) ?_ (sin_loads arg6 harg6 x5 r d))
    · exact head_loads arg1 harg1 arg2 harg2 arg3 harg3 arg4 harg4 x0 x1 x2 x3 n hn r d
    · exact head_loads arg1 harg1 arg2 harg2 arg3 harg3 arg4 harg4 x0 x1 x2 x3 n hn r _

/-- The block a point leaves, entry by entry. -/
theorem out_at (c : Dev nD) (i : grid0.Coords) (arg7 : Memref sig .tc .vmem S512x4096 .bf16) (harg7 : arg7.IsWhole) (r : Fin 512) (e : Fin 4096) :
    out0_A_6 (F := Ideal) c i arg1 harg1 arg2 harg2 arg3 harg3 arg4 harg4 arg5 harg5 arg6 harg6 arg7 harg7 x0 x1 x2 x3 x4 x5 (ix2 r e) = blockAt x0 x1 x2 x3 x4 x5 r e := by
  unfold out0_A_6
  have e1 := stores_eq (F := Ideal) arg1 harg1 arg2 harg2 arg3 harg3 arg4 harg4 arg5 harg5 arg6 harg6 x0 x1 x2 x3 x4 x5 c i arg7 harg7
  have hc := cover0_A_6 (F := Ideal) c i arg1 harg1 arg2 harg2 arg3 harg3 arg4 harg4 arg5 harg5 arg6 harg6 arg7 harg7 x0 x1 x2 x3 x4 x5 (ix2 r e)
  generalize (kernelRun0_A (F := Ideal) c i arg1 harg1 arg2 harg2 arg3 harg3 arg4 harg4 arg5 harg5 arg6 harg6 arg7 harg7 x0 x1 x2 x3 x4 x5).1 = L at e1 hc ⊢
  subst e1
  exact View.read_writes_apply_of_pieces VO0_6 _ (fun y => blockAt x0 x1 x2 x3 x4 x5 (y 0) (y 1)) _
    (stores_at arg1 harg1 arg2 harg2 arg3 harg3 arg4 harg4 arg5 harg5 arg6 harg6 x0 x1 x2 x3 x4 x5) (ix2 r e) hc

end Ideal

end Cert.Qkv

end
-- ==== Proof.QkvRef.lean ====
/- What the reference of the attention's input projection computes, read at an index. -/
module

public import proofs.«01_k».proof.Proof.Gen.Reference7Ideal.Read
public import proofs.«01_k».proof.Proof.QkvPay

@[expose] public section

set_option maxRecDepth 16384

noncomputable section

namespace Cert.Reference7Ideal.Qkv

open Cert.MlpMath Cert.InMath Cert.QkvMath Cert.Reference7Ideal Cert.Reference7Ideal.Gen Cert.Reference7Ideal.Read
open Idealize.ShloMosaic Idealize.ShloMosaic.TcCoe Idealize.SL.Sem

variable (x : FVec Ideal S3x8192x2048 .f32) (g : FVec Ideal S2048 .f32) (w : FVec Ideal S2048x4096 .f32)
  (gq gk : FVec Ideal S128 .f32)

/-- A projected row. -/
theorem dot_at (b : Fin 3) (s : Fin 8192) (e : Fin 4096) : val_main_v40 (F := Ideal) x g w (ix3 b s e)
    = project (fun l => x (ix3 b s l)) (fun l => g (ix1 l)) (fun l => w (ix2 l e)) := by
  pointwise [val_main_v27, val_main_v28, val_main_v29, val_main_v30, val_main_v31, val_main_v32, val_main_v33, val_main_v34,
    val_main_v35, val_main_v36, val_main_v37, val_main_v38, val_main_v39, val_main_v40, val_main_cst_3, val_main_cst_4,
    val_main_cst_5, rowScale, project]

/-- A query head's normalized entry times its gain. -/
theorem q_norm (b : Fin 3) (s : Fin 8192) (n : Fin 16) (k : Fin 128) : val_main_v58 (F := Ideal) x g w gq (ix4 b s n k)
    = val_main_v40 (F := Ideal) x g w (ix3 b s ⟨n.val * 128 + k.val, by omega⟩)
      * headScale (fun j => val_main_v40 (F := Ideal) x g w (ix3 b s ⟨n.val * 128 + j.val, by omega⟩)) * gq (ix1 k) := by
  unfold val_main_v58 val_main_v55 val_main_v54 val_main_v53 val_main_v52 val_main_v50 val_main_v48 val_main_v47 val_main_v46
    val_main_v42 val_main_v41
  generalize val_main_v40 (F := Ideal) x g w = z
  pointwise [val_main_v49, val_main_v51, val_main_v56, val_main_v57, val_main_cst_6, val_main_cst_7, val_main_cst_8, headScale]

/-- A key head's normalized entry times its gain. -/
theorem k_norm (b : Fin 3) (s : Fin 8192) (n : Fin 8) (k : Fin 128) : val_main_v96 (F := Ideal) x g w gk (ix4 b s n k)
    = val_main_v40 (F := Ideal) x g w (ix3 b s ⟨2048 + (n.val * 128 + k.val), by omega⟩)
      * headScale (fun j => val_main_v40 (F := Ideal) x g w (ix3 b s ⟨2048 + (n.val * 128 + j.val), by omega⟩)) * gk (ix1 k) := by
  unfold val_main_v96 val_main_v93 val_main_v92 val_main_v91 val_main_v90 val_main_v88 val_main_v86 val_main_v85 val_main_v84
    val_main_v44 val_main_v43
  generalize val_main_v40 (F := Ideal) x g w = z
  pointwise [val_main_v87, val_main_v89, val_main_v94, val_main_v95, val_main_cst_11, val_main_cst_12, val_main_cst_13, headScale]

/-- The first half of a query head after the rotation. -/
theorem q_first (b : Fin 3) (s : Fin 8192) (n : Fin 16) (i : Fin 2) (f : Fin 32) :
    val_main_v70 (F := Ideal) x g w gq (ix5 b s n i f)
    = val_main_v58 (F := Ideal) x g w gq (ix4 b s n ⟨i.val * 64 + f.val, by omega⟩) * val_main_v25 (F := Ideal) (ix3 s i f)
      - val_main_v58 (F := Ideal) x g w gq (ix4 b s n ⟨i.val * 64 + 32 + f.val, by omega⟩) * val_main_v26 (F := Ideal) (ix3 s i f) := by
  unfold val_main_v70 val_main_v69 val_main_v68 val_main_v67 val_main_v66 val_main_v65 val_main_v64 val_main_v63 val_main_v62
    val_main_v61 val_main_v60 val_main_v59
  generalize val_main_v58 (F := Ideal) x g w gq = z
  generalize val_main_v25 (F := Ideal) = cs
  generalize val_main_v26 (F := Ideal) = sn
  pointwise

/-- The second half of a query head after the rotation. -/
theorem q_second (b : Fin 3) (s : Fin 8192) (n : Fin 16) (i : Fin 2) (f : Fin 32) :
    val_main_v75 (F := Ideal) x g w gq (ix5 b s n i f)
    = val_main_v58 (F := Ideal) x g w gq (ix4 b s n ⟨i.val * 64 + 32 + f.val, by omega⟩) * val_main_v25 (F := Ideal) (ix3 s i f)
      + val_main_v58 (F := Ideal) x g w gq (ix4 b s n ⟨i.val * 64 + f.val, by omega⟩) * val_main_v26 (F := Ideal) (ix3 s i f) := by
  unfold val_main_v75 val_main_v74 val_main_v73 val_main_v72 val_main_v71 val_main_v65 val_main_v64 val_main_v63 val_main_v62
    val_main_v61 val_main_v60 val_main_v59
  generalize val_main_v58 (F := Ideal) x g w gq = z
  generalize val_main_v25 (F := Ideal) = cs
  generalize val_main_v26 (F := Ideal) = sn
  pointwise

/-- The first half of a key head after the rotation. -/
theorem k_first (b : Fin 3) (s : Fin 8192) (n : Fin 8) (i : Fin 2) (f : Fin 32) :
    val_main_v108 (F := Ideal) x g w gk (ix5 b s n i f)
    = val_main_v96 (F := Ideal) x g w gk (ix4 b s n ⟨i.val * 64 + f.val, by omega⟩) * val_main_v25 (F := Ideal) (ix3 s i f)
      - val_main_v96 (F := Ideal) x g w gk (ix4 b s n ⟨i.val * 64 + 32 + f.val, by omega⟩) * val_main_v26 (F := Ideal) (ix3 s i f) := by
  unfold val_main_v108 val_main_v107 val_main_v106 val_main_v105 val_main_v104 val_main_v103 val_main_v102 val_main_v101 val_main_v100
    val_main_v99 val_main_v98 val_main_v97
  generalize val_main_v96 (F := Ideal) x g w gk = z
  generalize val_main_v25 (F := Ideal) = cs
  generalize val_main_v26 (F := Ideal) = sn
  pointwise

/-- The second half of a key head after the rotation. -/
theorem k_second (b : Fin 3) (s : Fin 8192) (n : Fin 8) (i : Fin 2) (f : Fin 32) :
    val_main_v113 (F := Ideal) x g w gk (ix5 b s n i f)
    = val_main_v96 (F := Ideal) x g w gk (ix4 b s n ⟨i.val * 64 + 32 + f.val, by omega⟩) * val_main_v25 (F := Ideal) (ix3 s i f)
      + val_main_v96 (F := Ideal) x g w gk (ix4 b s n ⟨i.val * 64 + f.val, by omega⟩) * val_main_v26 (F := Ideal) (ix3 s i f) := by
  unfold val_main_v113 val_main_v112 val_main_v111 val_main_v110 val_main_v109 val_main_v103 val_main_v102 val_main_v101 val_main_v100
    val_main_v99 val_main_v98 val_main_v97
  generalize val_main_v96 (F := Ideal) x g w gk = z
  generalize val_main_v25 (F := Ideal) = cs
  generalize val_main_v26 (F := Ideal) = sn
  pointwise

/-- The result's value columns. -/
theorem v_out (q : Fin 24576) (e : Fin 4096) (h : 3072 ≤ e.val) : val_main_v121 (F := Ideal) x g w gq gk (ix2 q e)
    = val_main_v40 (F := Ideal) x g w (ix3 ⟨q.val / 8192, by omega⟩ ⟨q.val % 8192, by omega⟩ e) := by
  unfold val_main_v121 val_main_v120 val_main_v119 val_main_v45
  generalize val_main_v40 (F := Ideal) x g w = z
  generalize val_main_v117 (F := Ideal) x g w gq = y1
  generalize val_main_v118 (F := Ideal) x g w gk = y2
  pointwise
  rw [dif_neg (by omega), dif_neg (by omega)]
  exact congrArg (fun k => z (ix3 _ _ k)) (Fin.ext (by show 3072 + (e.val - 2048 - 1024) = e.val; omega))

/-- The result's query columns. -/
theorem q_out (q : Fin 24576) (e : Fin 4096) (h : e.val < 2048) : val_main_v121 (F := Ideal) x g w gq gk (ix2 q e)
    = Ideal.div (if e.val / 64 % 2 < 1 then val_main_v70 (F := Ideal) x g w gq (ix5 ⟨q.val / 8192, by omega⟩ ⟨q.val % 8192, by omega⟩ ⟨e.val / 128, by omega⟩ ⟨e.val / 32 % 2, by omega⟩ ⟨e.val % 32, by omega⟩)
        else val_main_v75 (F := Ideal) x g w gq (ix5 ⟨q.val / 8192, by omega⟩ ⟨q.val % 8192, by omega⟩ ⟨e.val / 128, by omega⟩ ⟨e.val / 32 % 2, by omega⟩ ⟨e.val % 32, by omega⟩))
      (Ideal.sqrt (Ideal.ofBits .f32 0x43000000#32) * Ideal.log (Ideal.ofBits .f32 0x40000000#32)) := by
  unfold val_main_v121 val_main_v120 val_main_v117 val_main_v83 val_main_v78 val_main_v77 val_main_v76
  generalize val_main_v70 (F := Ideal) x g w gq = z
  generalize val_main_v75 (F := Ideal) x g w gq = y
  generalize val_main_v118 (F := Ideal) x g w gk = y1
  generalize val_main_v119 (F := Ideal) x g w = y2
  pointwise [val_main_v79, val_main_v80, val_main_v81, val_main_v82, val_main_cst_9, val_main_cst_10]
  rw [dif_pos h]
  rfl

/-- The result's key columns. -/
theorem k_out (q : Fin 24576) (e : Fin 4096) (h : 2048 ≤ e.val) (h' : e.val < 3072) : val_main_v121 (F := Ideal) x g w gq gk (ix2 q e)
    = (if (e.val - 2048) / 64 % 2 < 1 then val_main_v108 (F := Ideal) x g w gk (ix5 ⟨q.val / 8192, by omega⟩ ⟨q.val % 8192, by omega⟩ ⟨(e.val - 2048) / 128, by omega⟩ ⟨(e.val - 2048) / 32 % 2, by omega⟩ ⟨(e.val - 2048) % 32, by omega⟩)
        else val_main_v113 (F := Ideal) x g w gk (ix5 ⟨q.val / 8192, by omega⟩ ⟨q.val % 8192, by omega⟩ ⟨(e.val - 2048) / 128, by omega⟩ ⟨(e.val - 2048) / 32 % 2, by omega⟩ ⟨(e.val - 2048) % 32, by omega⟩)) := by
  unfold val_main_v121 val_main_v120 val_main_v118 val_main_v116 val_main_v115 val_main_v114
  generalize val_main_v108 (F := Ideal) x g w gk = z
  generalize val_main_v113 (F := Ideal) x g w gk = y
  generalize val_main_v117 (F := Ideal) x g w gq = y1
  generalize val_main_v119 (F := Ideal) x g w = y2
  pointwise
  rw [dif_neg (by omega), dif_pos (by omega)]
  rfl

end Cert.Reference7Ideal.Qkv

end
-- ==== Proof.QkvHost.lean ====
/- The attention's input projection: what every point's blocks hold of the arguments. -/
module

public import proofs.«01_k».proof.Proof.QkvBlock
public import proofs.«01_k».proof.Proof.QkvRef
public import Idealize.ShloMosaic.Lib.Claim

@[expose] public section

set_option maxRecDepth 16384

noncomputable section

namespace Cert.Qkv

open Cert.MlpMath Cert.InMath Cert.QkvMath Cert.Kernel7Ideal Cert.Kernel7Ideal.Gen
open Idealize.ShloMosaic Idealize.ShloMosaic.TcCoe Idealize.SL.Sem
open Idealize.ShloMosaic.Pipeline (Dat)

/-- Every window's block index at every grid point. -/
theorem idx : ∀ t : Fin cfg0.N, win0_0.index t = ![t.val, 0] ∧ win0_1.index t = ![0, 0]
    ∧ win0_2.index t = ![0, 0] ∧ win0_3.index t = ![0, 0] ∧ win0_4.index t = ![t.val % 16, 0] ∧ win0_5.index t = ![t.val % 16, 0]
    ∧ win0_6.index t = ![t.val, 0] ∧ t.val < 48 :=
  (by decide +kernel : ∀ t : Fin grid0.N, _)

variable (m : (ℓ : Loc nD τ sig) → Buf (Elt Ideal) ℓ)

/-- The arguments. -/
abbrev hA (c : Dev nD) : FVec Ideal S3x8192x2048 .f32 := m ((c : Thread nD τ).loc main_arg0)
abbrev gA (c : Dev nD) : FVec Ideal S2048 .f32 := m ((c : Thread nD τ).loc main_arg1)
abbrev wA (c : Dev nD) : FVec Ideal S2048x4096 .f32 := m ((c : Thread nD τ).loc main_arg2)
abbrev gqA (c : Dev nD) : FVec Ideal S128 .f32 := m ((c : Thread nD τ).loc main_arg3)
abbrev gkA (c : Dev nD) : FVec Ideal S128 .f32 := m ((c : Thread nD τ).loc main_arg4)

set_option maxHeartbeats 400000 in
/-- The point's block of activations. -/
theorem x_at (c : Dev nD) (t : Fin cfg0.N) (r : Fin 512) (l : Fin 2048) (b : Fin 3) (s : Fin 8192)
    (hs : b.val * 8192 + s.val = t.val * 512 + r.val) :
    (iblk m c 0 t : FVec Ideal S512x2048 .f32) (ix2 r l) = hA m c (ix3 b s l) := by
  blk_point [iblk, idx t]

set_option maxHeartbeats 400000 in
/-- The point's block of the gain: all of it. -/
theorem g_at (c : Dev nD) (t : Fin cfg0.N) (l : Fin 2048) :
    (iblk m c 1 t : FVec Ideal S1x2048 .f32) (ix2 0 l) = gA m c (ix1 l) := by
  blk_point [iblk, idx t]

set_option maxHeartbeats 400000 in
/-- The weights' value columns. -/
theorem wv_at (c : Dev nD) (t : Fin cfg0.N) (l : Fin 2048) (e : Fin 4096) (h : 3072 ≤ e.val) :
    (iblk m c 2 t : FVec Ideal S2048x4096 .bf16) (ix2 l e) = wA m c (ix2 l e) := by
  blk_simp [iblk, idx t]
  entry_read
  pointwise
  blk_simp [idx t]
  split
  · omega
  · blk_ext [idx t]

set_option maxHeartbeats 400000 in
/-- The weights' columns of a head. -/
theorem wh_at (c : Dev nD) (t : Fin cfg0.N) (l : Fin 2048) (e : Fin 4096) (h : e.val < 3072) :
    (iblk m c 2 t : FVec Ideal S2048x4096 .bf16) (ix2 l e) = wA m c
      (ix2 l ⟨e.val / 128 * 128 + e.val / 32 % 2 * 64 + e.val / 64 % 2 * 32 + e.val % 32, by omega⟩) := by
  blk_simp [iblk, idx t]
  entry_read
  pointwise
  blk_simp [idx t]
  split
  · blk_ext [idx t]
  · omega

set_option maxHeartbeats 400000 in
/-- The queries' gain. -/
theorem gq_at (c : Dev nD) (t : Fin cfg0.N) (d : Fin 128) :
    (iblk m c 3 t : FVec Ideal S2x128 .f32) (ix2 0 d) = gqA m c
      (ix1 ⟨d.val / 32 % 2 * 64 + d.val / 64 * 32 + d.val % 32, by omega⟩)
      * Ideal.div 1 (Ideal.sqrt (Ideal.ofBits .f32 0x43000000#32) * Ideal.log (Ideal.ofBits .f32 0x40000000#32)) := by
  blk_simp [iblk, idx t]
  entry_read
  pointwise
  blk_simp [idx t]
  split
  · rfl
  · rename_i h
    exact absurd Nat.zero_lt_one h

set_option maxHeartbeats 400000 in
/-- The keys' gain. -/
theorem gk_at (c : Dev nD) (t : Fin cfg0.N) (d : Fin 128) :
    (iblk m c 3 t : FVec Ideal S2x128 .f32) (ix2 1 d) = gkA m c
      (ix1 ⟨d.val / 32 % 2 * 64 + d.val / 64 * 32 + d.val % 32, by omega⟩) := by
  blk_simp [iblk, idx t]
  entry_read
  pointwise
  blk_simp [idx t]
  split
  · rename_i h
    exact absurd h (Nat.lt_irrefl 1)
  · rfl

set_option maxHeartbeats 400000 in
/-- The cosines' table, from the reference's array of cosines. -/
theorem table_c (c : Dev nD) : (V m c main_v29 : FVec Ideal S8192x128 .f32) = concatenate S8192x128 1
    [⟨S8192x64, shapeCast S8192x64 (Cert.Reference7Ideal.Read.val_main_v25 (F := Ideal)) shapeCasts_S8192x2x32_S8192x64⟩,
     ⟨S8192x64, shapeCast S8192x64 (Cert.Reference7Ideal.Read.val_main_v25 (F := Ideal)) shapeCasts_S8192x2x32_S8192x64⟩]
    concatenates_S8192x64_S8192x64_S8192x128_d1 := by
  entry_read
  rfl

set_option maxHeartbeats 400000 in
/-- The sines' table, from the reference's array of sines: its first half is negated. -/
theorem table_s (c : Dev nD) : (V m c main_v31 : FVec Ideal S8192x128 .f32) = concatenate S8192x128 1
    [⟨S8192x64, (Host.negf (F := Ideal) (shapeCast S8192x64 (Cert.Reference7Ideal.Read.val_main_v26 (F := Ideal))
        shapeCasts_S8192x2x32_S8192x64 : FVec Ideal S8192x64 .f32) : FVec Ideal S8192x64 .f32)⟩,
     ⟨S8192x64, shapeCast S8192x64 (Cert.Reference7Ideal.Read.val_main_v26 (F := Ideal)) shapeCasts_S8192x2x32_S8192x64⟩]
    concatenates_S8192x64_S8192x64_S8192x128_d1 := by
  entry_read
  rfl

set_option maxHeartbeats 400000 in
/-- The cosines' rows. -/
theorem rc_at (c : Dev nD) (t : Fin cfg0.N) (r : Fin 512) (d : Fin 128) :
    (iblk m c 4 t : FVec Ideal S512x128 .f32) (ix2 r d) = Cert.Reference7Ideal.Read.val_main_v25 (F := Ideal)
      (ix3 ⟨t.val % 16 * 512 + r.val, by omega⟩ ⟨d.val / 32 % 2, by omega⟩ ⟨d.val % 32, by omega⟩) := by
  blk_simp [iblk, idx t]
  rw [table_c]
  generalize Cert.Reference7Ideal.Read.val_main_v25 (F := Ideal) = cs
  pointwise
  blk_simp [idx t]
  split
  · blk_ext [idx t] <;> omega
  · blk_ext [idx t] <;> omega

set_option maxHeartbeats 400000 in
/-- The sines' rows. -/
theorem rs_at (c : Dev nD) (t : Fin cfg0.N) (r : Fin 512) (d : Fin 128) :
    (iblk m c 5 t : FVec Ideal S512x128 .f32) (ix2 r d) = if d.val < 64 then -Cert.Reference7Ideal.Read.val_main_v26 (F := Ideal)
        (ix3 ⟨t.val % 16 * 512 + r.val, by omega⟩ ⟨d.val / 32 % 2, by omega⟩ ⟨d.val % 32, by omega⟩)
      else Cert.Reference7Ideal.Read.val_main_v26 (F := Ideal)
        (ix3 ⟨t.val % 16 * 512 + r.val, by omega⟩ ⟨d.val / 32 % 2, by omega⟩ ⟨d.val % 32, by omega⟩) := by
  blk_simp [iblk, idx t]
  rw [table_s]
  generalize Cert.Reference7Ideal.Read.val_main_v26 (F := Ideal) = sn
  pointwise
  blk_simp [idx t]
  by_cases h : d.val < 64
  · rw [if_pos h, dif_pos h]
    refine congrArg (fun z : EReal => -z) ?_
    blk_ext [idx t] <;> omega
  · rw [if_neg h, dif_neg h]
    blk_ext [idx t] <;> omega

end Cert.Qkv

end
-- ==== Proof.QkvValue.lean ====
/- The attention's input projection: the final array against the reference's. -/
module

public import proofs.«01_k».proof.Proof.QkvHost
public import proofs.«01_k».proof.Proof.SoftMath

@[expose] public section

set_option maxRecDepth 16384

noncomputable section

namespace Cert.QkvMath

open Idealize.ShloMosaic

/-- The order in which the kernel keeps a head's entries: the half of the rotated pair leads, the axis follows. -/
def swap (k : Fin 128) : Fin 128 := ⟨k.val / 32 % 2 * 64 + k.val / 64 * 32 + k.val % 32, by omega⟩

/-- That order undoes itself. -/
def swapEquiv : Fin 128 ≃ Fin 128 where
  toFun := swap
  invFun := swap
  left_inv k := by revert k; decide
  right_inv k := by revert k; decide

/-- A head's normalizing factor does not depend on the order of its entries. -/
theorem headScale_swap (v : Fin 128 → EReal) : headScale (fun k => v (swap k)) = headScale v :=
  congrArg (fun z => Ideal.rsqrt (Ideal.div z (Ideal.ofBits .f32 0x43000000#32) + Ideal.ofBits .f32 0x358637BD#32))
    (swapEquiv.sum_comp (fun k => v k * v k))

/-- The queries' scale. -/
abbrev lift : ℝ := 1 / (Real.sqrt 128 * Real.log 2)

/-- It is not negative. -/
theorem lift_nonneg : (0 : EReal) ≤ (lift : EReal) :=
  EReal.coe_nonneg.mpr (div_nonneg zero_le_one (mul_nonneg (Real.sqrt_nonneg _) (Real.log_pos (by norm_num)).le))

/-- Dividing by the root of the head's size and the logarithm of two is multiplying by the queries' scale. -/
theorem div_lift (y : EReal) : Ideal.div y (Ideal.sqrt (Ideal.ofBits .f32 0x43000000#32) * Ideal.log (Ideal.ofBits .f32 0x40000000#32))
    = y * (lift : EReal) := by
  have h : Ideal.ofBits .f32 1124073472#32 = ((128 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have h0 : Real.sqrt 128 * Real.log 2 ≠ 0 :=
    (mul_pos (Real.sqrt_pos.mpr (by norm_num)) (Real.log_pos (by norm_num))).ne'
  rw [h, h2, Ideal.sqrt_coe, if_neg (by norm_num), Ideal.log_coe, if_neg (by norm_num), ← EReal.coe_mul, Ideal.div_coe h0]

/-- A scale on both of a rotation's entries is a scale on the rotated one. -/
theorem scaled_sum (a b u v : EReal) : a * (lift : EReal) * u + b * (lift : EReal) * v = (a * u + b * v) * (lift : EReal) := by
  rw [EReal.right_distrib_of_nonneg_of_ne_top lift_nonneg (EReal.coe_ne_top _), mul_right_comm a, mul_right_comm b]

/-- The first half of a head keeps the first entries of the rotated pairs, the second half the second ones. -/
theorem swap_first (e : Fin 4096) (h : e.val / 64 % 2 < 1) :
    swap ⟨e.val % 128, by omega⟩ = ⟨e.val / 32 % 2 * 64 + e.val % 32, by omega⟩
    ∧ swap ⟨(e.val % 128 + 64) % 128, by omega⟩ = ⟨e.val / 32 % 2 * 64 + 32 + e.val % 32, by omega⟩ := by
  constructor
  · exact Fin.ext (by show e.val % 128 / 32 % 2 * 64 + e.val % 128 / 64 * 32 + e.val % 128 % 32 = e.val / 32 % 2 * 64 + e.val % 32; omega)
  · exact Fin.ext (by
      show (e.val % 128 + 64) % 128 / 32 % 2 * 64 + (e.val % 128 + 64) % 128 / 64 * 32 + (e.val % 128 + 64) % 128 % 32
        = e.val / 32 % 2 * 64 + 32 + e.val % 32
      omega)

/-- And the second half. -/
theorem swap_second (e : Fin 4096) (h : ¬ e.val / 64 % 2 < 1) :
    swap ⟨e.val % 128, by omega⟩ = ⟨e.val / 32 % 2 * 64 + 32 + e.val % 32, by omega⟩
    ∧ swap ⟨(e.val % 128 + 64) % 128, by omega⟩ = ⟨e.val / 32 % 2 * 64 + e.val % 32, by omega⟩ := by
  constructor
  · exact Fin.ext (by show e.val % 128 / 32 % 2 * 64 + e.val % 128 / 64 * 32 + e.val % 128 % 32 = e.val / 32 % 2 * 64 + 32 + e.val % 32; omega)
  · exact Fin.ext (by
      show (e.val % 128 + 64) % 128 / 32 % 2 * 64 + (e.val % 128 + 64) % 128 / 64 * 32 + (e.val % 128 + 64) % 128 % 32
        = e.val / 32 % 2 * 64 + e.val % 32
      omega)

end Cert.QkvMath

namespace Cert.Qkv

open Cert.MlpMath Cert.InMath Cert.QkvMath Cert.Kernel7Ideal Cert.Kernel7Ideal.Gen
open Idealize.ShloMosaic Idealize.ShloMosaic.TcCoe Idealize.SL.Sem
open Idealize.ShloMosaic.Pipeline (Dat)
open Cert.Reference7Ideal.Read (val_main_v25 val_main_v26 val_main_v40 val_main_v58 val_main_v70 val_main_v75 val_main_v96
  val_main_v108 val_main_v113 val_main_v121)

variable (m : (ℓ : Loc nD τ sig) → Buf (Elt Ideal) ℓ)

/-- The projected rows of the reference. -/
abbrev rowsA (c : Dev nD) (b : Fin 3) (s : Fin 8192) (e : Fin 4096) : EReal :=
  val_main_v40 (F := Ideal) (hA m c) (gA m c) (wA m c) (ix3 b s e)

section Point

variable (c : Dev nD) (t : Fin cfg0.N) (r : Fin 512) (b : Fin 3) (s : Fin 8192) (hs : b.val * 8192 + s.val = t.val * 512 + r.val)

include hs

/-- A value column of the point's product. -/
theorem dot_value (e : Fin 4096) (h : 3072 ≤ e.val) : dotAt (iblk m c 0 t) (iblk m c 1 t) (iblk m c 2 t) r e = rowsA m c b s e := by
  refine Eq.trans ?_ (Cert.Reference7Ideal.Qkv.dot_at _ _ _ b s e).symm
  exact congr (congr (congrArg project (funext fun l => x_at m c t r l b s hs)) (funext (g_at m c t)))
    (funext fun l => wv_at m c t l e h)

/-- A head's column of the point's product. -/
theorem dot_head (n : ℕ) (hn : n < 24) (k : Fin 128) : dotAt (iblk m c 0 t) (iblk m c 1 t) (iblk m c 2 t) r ⟨n * 128 + k.val, by omega⟩
    = rowsA m c b s ⟨n * 128 + (swap k).val, by omega⟩ := by
  refine Eq.trans ?_ (Cert.Reference7Ideal.Qkv.dot_at _ _ _ b s _).symm
  refine congr (congr (congrArg project (funext fun l => x_at m c t r l b s hs)) (funext (g_at m c t)))
    (funext fun l => (wh_at m c t l _ (by show n * 128 + k.val < 3072; omega)).trans (congrArg (fun z => wA m c (ix2 l z)) (Fin.ext ?_)))
  show (n * 128 + k.val) / 128 * 128 + (n * 128 + k.val) / 32 % 2 * 64 + (n * 128 + k.val) / 64 % 2 * 32 + (n * 128 + k.val) % 32
    = n * 128 + (k.val / 32 % 2 * 64 + k.val / 64 * 32 + k.val % 32)
  omega

/-- A head's normalized entry, without its gain. -/
theorem head_norm (n : ℕ) (hn : n < 24) (d : Fin 128) : headAt (iblk m c 0 t) (iblk m c 1 t) (iblk m c 2 t) (iblk m c 3 t) r ⟨n, hn⟩ d
    = rowsA m c b s ⟨n * 128 + (swap d).val, by omega⟩ * headScale (fun k => rowsA m c b s ⟨n * 128 + k.val, by omega⟩)
      * (iblk m c 3 t : FVec Ideal S2x128 .f32) (ix2 ⟨n / 16, by omega⟩ d) := by
  refine congrArg (fun z : EReal => z * _) (congrArg₂ (fun u v : EReal => u * v) (dot_head m c t r b s hs n hn d) ?_)
  exact (congrArg headScale (funext (dot_head m c t r b s hs n hn))).trans
    (headScale_swap (fun k => rowsA m c b s ⟨n * 128 + k.val, by omega⟩))

/-- A query head's entry: the reference's, times the queries' scale. -/
theorem head_q (n : ℕ) (hn : n < 16) (d d' : Fin 128) (hd : swap d = d') :
    headAt (iblk m c 0 t) (iblk m c 1 t) (iblk m c 2 t) (iblk m c 3 t) r ⟨n, by omega⟩ d
    = val_main_v58 (F := Ideal) (hA m c) (gA m c) (wA m c) (gqA m c) (ix4 b s ⟨n, hn⟩ d') * (lift : EReal) := by
  subst hd
  have e : (⟨n / 16, by omega⟩ : Fin 2) = 0 := Fin.ext (by show n / 16 = 0; omega)
  have eg : (iblk m c 3 t : FVec Ideal S2x128 .f32) (ix2 ⟨n / 16, by omega⟩ d) = gqA m c (ix1 (swap d)) * (lift : EReal) :=
    (congrArg (fun i => (iblk m c 3 t : FVec Ideal S2x128 .f32) (ix2 i d)) e).trans ((gq_at m c t d).trans
      (congrArg (fun z : EReal => gqA m c (ix1 (swap d)) * z) Cert.SoftMath.scale_host))
  rw [head_norm m c t r b s hs n (by omega) d, Cert.Reference7Ideal.Qkv.q_norm, eg]
  exact (mul_assoc _ _ _).symm

/-- A key head's entry: the reference's. -/
theorem head_k (n : ℕ) (hn : n < 8) (d d' : Fin 128) (hd : swap d = d') :
    headAt (iblk m c 0 t) (iblk m c 1 t) (iblk m c 2 t) (iblk m c 3 t) r ⟨16 + n, by omega⟩ d
    = val_main_v96 (F := Ideal) (hA m c) (gA m c) (wA m c) (gkA m c) (ix4 b s ⟨n, hn⟩ d') := by
  subst hd
  rw [head_norm m c t r b s hs (16 + n) (by omega) d, Cert.Reference7Ideal.Qkv.k_norm]
  have e : (⟨(16 + n) / 16, by omega⟩ : Fin 2) = 1 := Fin.ext (by show (16 + n) / 16 = 1; omega)
  have ec : ∀ k : Fin 128, (⟨(16 + n) * 128 + k.val, by omega⟩ : Fin 4096) = ⟨2048 + (n * 128 + k.val), by omega⟩ := fun k =>
    Fin.ext (by show (16 + n) * 128 + k.val = 2048 + (n * 128 + k.val); omega)
  exact congrArg₂ (fun u v : EReal => u * v) (congrArg₂ (fun u v : EReal => u * v) (congrArg (rowsA m c b s) (ec (swap d)))
    (congrArg headScale (funext fun k => congrArg (rowsA m c b s) (ec k))))
    ((congrArg (fun i => (iblk m c 3 t : FVec Ideal S2x128 .f32) (ix2 i d)) e).trans (gk_at m c t d))

end Point

/-- A table of angles at equal places. -/
theorem angle_at (z : FVec Ideal S8192x2x32 .f32) (a a' : Fin 8192) (i i' : Fin 2) (f f' : Fin 32) (ha : a.val = a'.val)
    (hi : i.val = i'.val) (hf : f.val = f'.val) : z (ix3 a i f) = z (ix3 a' i' f') := by
  obtain rfl := Fin.ext ha
  obtain rfl := Fin.ext hi
  obtain rfl := Fin.ext hf
  rfl

section Rows

variable (c : Dev nD) (t : Fin cfg0.N) (r : Fin 512) (q : Fin 24576) (hq : q.val = t.val * 512 + r.val) (e : Fin 4096)

include hq

/-- The cosine at an entry. -/
theorem cos_row (d : Fin 128) (hd : e.val % 128 = d.val) : (iblk m c 4 t : FVec Ideal S512x128 .f32) (ix2 r d)
    = val_main_v25 (F := Ideal) (ix3 ⟨q.val % 8192, by omega⟩ ⟨e.val / 32 % 2, by omega⟩ ⟨e.val % 32, by omega⟩) := by
  have hr := r.isLt
  exact (rc_at m c t r d).trans (angle_at _ _ _ _ _ _ _ (by show t.val % 16 * 512 + r.val = q.val % 8192; omega)
    (by show d.val / 32 % 2 = e.val / 32 % 2; omega) (by show d.val % 32 = e.val % 32; omega))

/-- The sine at an entry: negated in the first half of a head. -/
theorem sin_row (d : Fin 128) (hd : e.val % 128 = d.val) : (iblk m c 5 t : FVec Ideal S512x128 .f32) (ix2 r d)
    = if e.val / 64 % 2 < 1
      then -val_main_v26 (F := Ideal) (ix3 ⟨q.val % 8192, by omega⟩ ⟨e.val / 32 % 2, by omega⟩ ⟨e.val % 32, by omega⟩)
      else val_main_v26 (F := Ideal) (ix3 ⟨q.val % 8192, by omega⟩ ⟨e.val / 32 % 2, by omega⟩ ⟨e.val % 32, by omega⟩) := by
  have hr := r.isLt
  have hv : val_main_v26 (F := Ideal) (ix3 ⟨t.val % 16 * 512 + r.val, by omega⟩ ⟨d.val / 32 % 2, by omega⟩ ⟨d.val % 32, by omega⟩)
      = val_main_v26 (F := Ideal) (ix3 ⟨q.val % 8192, by omega⟩ ⟨e.val / 32 % 2, by omega⟩ ⟨e.val % 32, by omega⟩) :=
    angle_at _ _ _ _ _ _ _ (by show t.val % 16 * 512 + r.val = q.val % 8192; omega)
      (by show d.val / 32 % 2 = e.val / 32 % 2; omega) (by show d.val % 32 = e.val % 32; omega)
  refine (rs_at m c t r d).trans ?_
  rw [hv]
  by_cases h : d.val < 64
  · rw [if_pos h, if_pos (show e.val / 64 % 2 < 1 by omega)]
  · rw [if_neg h, if_neg (show ¬ e.val / 64 % 2 < 1 by omega)]

/-- The block a point leaves is the reference's rows. -/
theorem point_at : blockAt (iblk m c 0 t) (iblk m c 1 t) (iblk m c 2 t) (iblk m c 3 t) (iblk m c 4 t) (iblk m c 5 t) r e
    = val_main_v121 (F := Ideal) (hA m c) (gA m c) (wA m c) (gqA m c) (gkA m c) (ix2 q e) := by
  have hqlt := q.isLt
  have hs : (⟨q.val / 8192, by omega⟩ : Fin 3).val * 8192 + (⟨q.val % 8192, Nat.mod_lt _ (by decide)⟩ : Fin 8192).val
      = t.val * 512 + r.val := by
    show q.val / 8192 * 8192 + q.val % 8192 = t.val * 512 + r.val
    omega
  have hcos := cos_row m c t r q hq e ⟨e.val % 128, by omega⟩ rfl
  have hsin := sin_row m c t r q hq e ⟨e.val % 128, by omega⟩ rfl
  by_cases hv : 3072 ≤ e.val
  · exact (blockAt_value _ _ _ _ _ _ r e hv).trans ((dot_value m c t r _ _ hs e hv).trans
      (Cert.Reference7Ideal.Qkv.v_out (hA m c) (gA m c) (wA m c) (gqA m c) (gkA m c) q e hv).symm)
  refine (dif_pos (show e.val < 3072 by omega)).trans ?_
  rw [hcos, hsin]
  by_cases hk : e.val < 2048
  · refine Eq.trans ?_ (Cert.Reference7Ideal.Qkv.q_out (hA m c) (gA m c) (wA m c) (gqA m c) (gkA m c) q e hk).symm
    rw [div_lift]
    by_cases hp : e.val / 64 % 2 < 1
    · obtain ⟨h1, h2⟩ := swap_first e hp
      rw [if_pos hp, if_pos hp, Cert.Reference7Ideal.Qkv.q_first, head_q m c t r _ _ hs (e.val / 128) (by omega) _ _ h1,
        head_q m c t r _ _ hs (e.val / 128) (by omega) _ _ h2, scaled_sum, mul_neg, ← sub_eq_add_neg]
    · obtain ⟨h1, h2⟩ := swap_second e hp
      rw [if_neg hp, if_neg hp, Cert.Reference7Ideal.Qkv.q_second, head_q m c t r _ _ hs (e.val / 128) (by omega) _ _ h1,
        head_q m c t r _ _ hs (e.val / 128) (by omega) _ _ h2, scaled_sum]
  · refine Eq.trans ?_ (Cert.Reference7Ideal.Qkv.k_out (hA m c) (gA m c) (wA m c) (gqA m c) (gkA m c) q e (by omega) (by omega)).symm
    have h1 : (e.val - 2048) / 64 % 2 = e.val / 64 % 2 := by omega
    have h2 : (e.val - 2048) / 32 % 2 = e.val / 32 % 2 := by omega
    have h3 : (e.val - 2048) % 32 = e.val % 32 := by omega
    have hh : (⟨e.val / 128, by omega⟩ : Fin 24) = ⟨16 + (e.val - 2048) / 128, by omega⟩ :=
      Fin.ext (by show e.val / 128 = 16 + (e.val - 2048) / 128; omega)
    rw [hh]
    simp only [h1, h2, h3]
    by_cases hp : e.val / 64 % 2 < 1
    · obtain ⟨h1, h2⟩ := swap_first e hp
      rw [if_pos hp, if_pos hp, Cert.Reference7Ideal.Qkv.k_first, head_k m c t r _ _ hs ((e.val - 2048) / 128) (by omega) _ _ h1,
        head_k m c t r _ _ hs ((e.val - 2048) / 128) (by omega) _ _ h2, mul_neg, ← sub_eq_add_neg]
    · obtain ⟨h1, h2⟩ := swap_second e hp
      rw [if_neg hp, if_neg hp, Cert.Reference7Ideal.Qkv.k_second, head_k m c t r _ _ hs ((e.val - 2048) / 128) (by omega) _ _ h1,
        head_k m c t r _ _ hs ((e.val - 2048) / 128) (by omega) _ _ h2]

end Rows

/-- The array the call returns: the reference's. -/
theorem final (c : Dev nD) : (dats m 0 c).arrAt 6 (cfgs 0).N
    = val_main_v121 (F := Ideal) (hA m c) (gA m c) (wA m c) (gqA m c) (gkA m c) := by
  refine (dats m 0 c).arrAt_eq_of_covers 6 _ (by decide +kernel) fun t hf y => ?_
  blk_simp
  rw [after0_6]
  have hQ : ((win0_6.blk t).view.emb y 0).val = t.val * 512 + (y 0).val := by blk_simp [idx t]
  have hE : (win0_6.blk t).view.emb y 1 = y 1 := Fin.ext (by blk_simp [idx t])
  refine Eq.trans ?_ (congrArg _ (eq_ix2 _).symm)
  rw [hE]
  refine (congrArg _ (eq_ix2 y)).trans (Eq.trans ?_ (point_at m c t (y 0) _ hQ (y 1)))
  unfold outsAt0
  exact out_at _ _ _ _ _ _ _ _ _ _ _ _ _ _ _ _ _ _ c _ _ _ (y 0) (y 1)

end Cert.Qkv

end
-- ==== Proof.lean ====
/- The certificate: every conjunct of `Cert.Claim`. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Reference4Ideal
public import proofs.«01_k».proof.Proof.Gen.Reference4Ideal.Run
public import proofs.«01_k».proof.Proof.Gen.Reference4Ideal.Read
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite
public import proofs.«01_k».proof.Proof.FlashPre
public import proofs.«01_k».proof.Proof.FlashValue
public import proofs.«01_k».proof.Proof.Mlp2Value
public import proofs.«01_k».proof.Proof.Mlp3Value
public import proofs.«01_k».proof.Proof.Proj4Value
public import proofs.«01_k».proof.Proof.Proj5Value
public import proofs.«01_k».proof.Proof.InFrameBits
public import proofs.«01_k».proof.Proof.InValue
public import proofs.«01_k».proof.Proof.QkvValue
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- At `Ideal` the two programs of the attention end with equal results where queries and keys are real. -/
theorem algebraic : Cert.algebraic_KernelIdeal_ReferenceIdeal_pre_finite := by
  pair_intro
  · run_from Cert.KernelIdeal.Gen.run_main m g
  · run_from Cert.ReferenceIdeal.Value.run m' g'
    obtain ⟨⟨q, hq⟩, ⟨k, hk⟩⟩ := Cert.Pre_finite.real _ _ _ (hpre c)
    exact (Cert.KernelIdeal.Flash.final m c q k hq hk).symm

/-- At `Ideal` the two programs of the prompt batch's MLP end with equal results. -/
theorem algebraic2 : Cert.algebraic_Kernel2Ideal_Reference2Ideal := by
  pair_intro
  · run_from Cert.Kernel2Ideal.Gen.run_main m g
  · run_from Cert.Reference2Ideal.Value.run m' g'
    exact (Cert.Kernel2Ideal.Mlp.final m c).symm

/-- At `Ideal` the two programs of the sample batch's MLP end with equal results. -/
theorem algebraic3 : Cert.algebraic_Kernel3Ideal_Reference3Ideal := by
  pair_intro
  · run_from Cert.Kernel3Ideal.Gen.run_main m g
  · run_from Cert.Reference3Ideal.Value.run m' g'
    exact (Cert.Kernel3Ideal.Mlp.final m c).symm

/-- At `Ideal` the two programs of the projection of the attention output and its residual end with equal results. -/
theorem algebraic4 : Cert.algebraic_Kernel4Ideal_Reference4Ideal := by
  pair_intro
  · run_from Cert.Kernel4Ideal.Gen.run_main m g
  · run_from Cert.Reference4Ideal.Value.run m' g'
    exact (Cert.Kernel4Ideal.Proj.final m c).symm

/-- At `Ideal` the two programs of the projection of the state space output and its residual end with equal results. -/
theorem algebraic5 : Cert.algebraic_Kernel5Ideal_Reference5Ideal := by
  pair_intro
  · run_from Cert.Kernel5Ideal.Gen.run_main m g
  · run_from Cert.Reference5Ideal.Value.run m' g'
    exact (Cert.Kernel5Ideal.Proj.final m c).symm

/-- The kernel's literal of the input projection is the named constant at its value, one over the logarithm of two. -/
theorem preserves6 : Cert.preserves_Kernel6_Kernel6Ideal :=
  IdealRules.named_const.statement Cert.Kernel6Ideal.κ "log2e" .f32 0x3FB8AA3B#32 (((Real.log 2)⁻¹ : ℝ) : EReal) rfl

/-- At `Ideal` the two programs of the input projection end with equal results. -/
theorem algebraic6 : Cert.algebraic_Kernel6Ideal_Reference6Ideal := by
  pair_intro
  · run_from Cert.InProj.run_main m g
  · run_from Cert.Reference6Ideal.Value.run m' g'
    · exact (Cert.InProj.final6 m c).symm
    · obtain ⟨h0, h1, h2, h3, h4⟩ := hagree c
      refine (Cert.Reference6Ideal.Read.val_main_v53_eq m' c).trans ?_
      rw [h0, h1, h2, h3]
      exact (Cert.InProj.final7 m c).symm
    · obtain ⟨h0, h1, h2, h3, h4⟩ := hagree c
      refine (Cert.Reference6Ideal.Read.val_main_v54_eq m' c).trans ?_
      rw [h0, h1, h2, h3, h4]
      exact (Cert.InProj.final8 m c).symm

/-- At `Ideal` the two programs of the attention's input projection end with equal results. -/
theorem algebraic7 : Cert.algebraic_Kernel7Ideal_Reference7Ideal := by
  pair_intro
  · run_from Cert.Kernel7Ideal.Gen.run_main m g
  · run_from Cert.Reference7Ideal.Value.run m' g'
    obtain ⟨h0, h1, h2, h3, h4⟩ := hagree c
    refine (Cert.Reference7Ideal.Read.val_main_v121_eq m' c).trans ?_
    rw [h0, h1, h2, h3, h4]
    exact (Cert.Qkv.final m c).symm

set_option maxHeartbeats 400000 in
/-- The two programs run the same body at every grid point. -/
theorem bodies7 : Cert.Kernel7.defs₀ (F := Bits) = Cert.Kernel7Ideal.defs₀ (F := Bits) := by
  unfold Cert.Kernel7.defs₀ Cert.Kernel7Ideal.defs₀
  refine congrArg Defs.onTc (funext fun l => funext fun a => ?_)
  obtain ⟨n, hn⟩ := l
  match n, hn, a with
  | 0, _, (t, s) => rfl
  | k + 1, h, _ => exact absurd h (Nat.not_lt.2 (Nat.le_add_left _ _))

set_option maxHeartbeats 400000 in
/-- The frame of `Kernel7`, whose text is its idealization's: that program's run. -/
theorem kernel7_frame : Cert.quiescent_Kernel7 := by
  intro m ρ _
  have hd : Cert.Kernel7.defs (F := Bits) = Cert.Kernel7Ideal.defs (F := Bits) :=
    congrArg (Pipeline.defs Cert.Kernel7Ideal.pcfgs) bodies7
  rw [hd]
  exact (θ_run Cert.Kernel7Ideal.defs _ _).mono (fun _ h => h) (Cert.Kernel7Ideal.Gen.frame (F := Bits) m ρ)

/-- The frame of `ReferenceIdeal`: it ends, its arguments unchanged, every counter at zero. -/
theorem reference_frame : Cert.quiescent_ReferenceIdeal := by
  intro m ρ _
  hlo_run
  all_goals first | exact sem_eq_zero_of_no_sems (sig := Cert.ReferenceIdeal.sig) (by decide) _ | exact fun _ => by simp

/-- The frame of `Reference2Ideal`: it ends, its arguments unchanged, every counter at zero. -/
theorem reference2_frame : Cert.quiescent_Reference2Ideal := by
  intro m ρ _
  hlo_run
  all_goals first | exact sem_eq_zero_of_no_sems (sig := Cert.Reference2Ideal.sig) (by decide) _ | exact fun _ => by simp

/-- The frame of `Reference3Ideal`: it ends, its arguments unchanged, every counter at zero. -/
theorem reference3_frame : Cert.quiescent_Reference3Ideal := by
  intro m ρ _
  hlo_run
  all_goals first | exact sem_eq_zero_of_no_sems (sig := Cert.Reference3Ideal.sig) (by decide) _ | exact fun _ => by simp

/-- The frame of `Reference4Ideal`: it ends, its arguments unchanged, every counter at zero. -/
theorem reference4_frame : Cert.quiescent_Reference4Ideal := by
  intro m ρ _
  hlo_run
  all_goals first | exact sem_eq_zero_of_no_sems (sig := Cert.Reference4Ideal.sig) (by decide) _ | exact fun _ => by simp

/-- The frame of `Reference5Ideal`: it ends, its arguments unchanged, every counter at zero. -/
theorem reference5_frame : Cert.quiescent_Reference5Ideal := by
  intro m ρ _
  hlo_run
  all_goals first | exact sem_eq_zero_of_no_sems (sig := Cert.Reference5Ideal.sig) (by decide) _ | exact fun _ => by simp

/-- The frame of `Reference6Ideal`: it ends, its arguments unchanged, every counter at zero. -/
theorem reference6_frame : Cert.quiescent_Reference6Ideal := by
  intro m ρ _
  hlo_run
  all_goals first | exact sem_eq_zero_of_no_sems (sig := Cert.Reference6Ideal.sig) (by decide) _ | exact fun _ => by simp

/-- The frame of `Reference7Ideal`: it ends, its arguments unchanged, every counter at zero. -/
theorem reference7_frame : Cert.quiescent_Reference7Ideal := by
  intro m ρ _
  hlo_run
  all_goals first | exact sem_eq_zero_of_no_sems (sig := Cert.Reference7Ideal.sig) (by decide) _ | exact fun _ => by simp

/-- Every claim of the certificate: the programs' facts, their frames, and, program by program, what
    idealizing preserves and the equation of the results. -/
theorem claim : Cert.Claim :=
  ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite.Gen.facts,
  fun m ρ _ => Cert.Kernel.Gen.frame m ρ, fun m ρ _ => Cert.KernelIdeal.Gen.frame m ρ,
  fun m ρ _ => Cert.KernelIdeal.Gen.frame m ρ, reference_frame, fun m ρ _ => reference_frame m ρ trivial,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  fun m ρ _ => Cert.InProjBits.frame m ρ, fun m ρ _ => Cert.InProj.frame m ρ, reference6_frame,
  kernel7_frame, fun m ρ _ => Cert.Kernel7Ideal.Gen.frame m ρ, reference7_frame,
  trivial, algebraic, trivial, algebraic2, trivial, algebraic3, trivial, algebraic4, trivial, algebraic5,
  preserves6, algebraic6, trivial, algebraic7⟩

end Cert.Proof

end
